-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_initialised [hPre_zero_initialised : Cert.Pre_zero_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_initialised [hPre_zero_initialised : Cert.Pre_zero_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_initialised [hKernelIdeal : Cert.KernelIdeal.Facts] [hPre_zero_initialised : Cert.Pre_zero_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_zero_initialised [hReferenceIdeal : Cert.ReferenceIdeal.Facts] [hPre_zero_initialised : Cert.Pre_zero_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_zero_initialised [hKernelIdeal : Cert.KernelIdeal.Facts] [hReferenceIdeal : Cert.ReferenceIdeal.Facts] [hPre_zero_initialised : Cert.Pre_zero_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_zero_initialised : Cert.Pre_zero_initialised.Facts),
    quiescent_Kernel (hKernel := hKernel)
    ∧ quiescent_KernelIdeal (hKernelIdeal := hKernelIdeal)
    ∧ quiescent_KernelIdeal_pre_zero_initialised (hKernelIdeal := hKernelIdeal) (hPre_zero_initialised := hPre_zero_initialised)
    ∧ quiescent_ReferenceIdeal (hReferenceIdeal := hReferenceIdeal)
    ∧ quiescent_ReferenceIdeal_pre_zero_initialised (hReferenceIdeal := hReferenceIdeal) (hPre_zero_initialised := hPre_zero_initialised)
    ∧ preserves_Kernel_KernelIdeal
    ∧ algebraic_KernelIdeal_ReferenceIdeal_pre_zero_initialised (hKernelIdeal := hKernelIdeal) (hReferenceIdeal := hReferenceIdeal) (hPre_zero_initialised := hPre_zero_initialised)
-- ==== Pre_zero_initialised.lean ====
abbrev S20000x32 : Shape := ⟨2, ![20000, 32]⟩
abbrev S20000x4 : Shape := ⟨2, ![20000, 4]⟩
abbrev S32 : Shape := ⟨1, ![32]⟩
abbrev S32x8 : Shape := ⟨2, ![32, 8]⟩
abbrev S8 : Shape := ⟨1, ![8]⟩
abbrev S3x3x3x32x256 : Shape := ⟨5, ![3, 3, 3, 32, 256]⟩
abbrev S256 : Shape := ⟨1, ![256]⟩
abbrev S3x3x3x32x32 : Shape := ⟨5, ![3, 3, 3, 32, 32]⟩
abbrev S_ : Shape := ⟨0, ![]⟩

class Facts : Prop where
  bcast_S_S8 : S_.BroadcastsInDim S8 (![] : Fin 0 → Fin S8.rank)
  bcast_S_S3x3x3x32x32 : S_.BroadcastsInDim S3x3x3x32x32 (![] : Fin 0 → Fin S3x3x3x32x32.rank)
  bcast_S_S32 : S_.BroadcastsInDim S32 (![] : Fin 0 → Fin S32.rank)

variable [Facts]

def fn {F : FTy → Type} [FloatOps F] (main_arg0 : FVec F S20000x32 .f32) (main_arg1 : IVec S20000x4 32) (main_arg2 : FVec F S32 .f32) (main_arg3 : FVec F S32 .f32) (main_arg4 : FVec F S32x8 .f32) (main_arg5 : FVec F S8 .f32) (main_arg6 : FVec F S3x3x3x32x256 .f32) (main_arg7 : FVec F S256 .f32) (main_arg8 : FVec F S3x3x3x32x32 .f32) (main_arg9 : FVec F S32 .f32) : IVec S8 1 × IVec S3x3x3x32x32 1 × IVec S32 1 :=
  let main_cst : FVec F S_ .f32 := constant S_ .f32 0x00000000#32
  let main_v0 : FVec F S8 .f32 := broadcastInDim S8 ![] bcast_S_S8 main_cst
  let main_v1 : IVec S8 1 := cmpf .oeq main_arg5 main_v0
  let main_cst_0 : FVec F S_ .f32 := constant S_ .f32 0x00000000#32
  let main_v2 : FVec F S3x3x3x32x32 .f32 := broadcastInDim S3x3x3x32x32 ![] bcast_S_S3x3x3x32x32 main_cst_0
  let main_v3 : IVec S3x3x3x32x32 1 := cmpf .oeq main_arg8 main_v2
  let main_cst_1 : FVec F S_ .f32 := constant S_ .f32 0x00000000#32
  let main_v4 : FVec F S32 .f32 := broadcastInDim S32 ![] bcast_S_S32 main_cst_1
  let main_v5 : IVec S32 1 := cmpf .oeq main_arg9 main_v4
  (main_v1, main_v3, main_v5)
-- ==== Kernel.lean ====
abbrev S20000x32 : Shape := ⟨2, ![20000, 32]⟩
abbrev S20000x4 : Shape := ⟨2, ![20000, 4]⟩
abbrev S32 : Shape := ⟨1, ![32]⟩
abbrev S32x8 : Shape := ⟨2, ![32, 8]⟩
abbrev S8 : Shape := ⟨1, ![8]⟩
abbrev S3x3x3x32x256 : Shape := ⟨5, ![3, 3, 3, 32, 256]⟩
abbrev S256 : Shape := ⟨1, ![256]⟩
abbrev S3x3x3x32x32 : Shape := ⟨5, ![3, 3, 3, 32, 32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x40 : Shape := ⟨2, ![32, 40]⟩
abbrev S40x32 : Shape := ⟨2, ![40, 32]⟩
abbrev S64x40 : Shape := ⟨2, ![64, 40]⟩
abbrev S40 : Shape := ⟨1, ![40]⟩
abbrev S16384 : Shape := ⟨1, ![16384]⟩
abbrev S40x1 : Shape := ⟨2, ![40, 1]⟩
abbrev S1x16384 : Shape := ⟨2, ![1, 16384]⟩
abbrev S40x16384 : Shape := ⟨2, ![40, 16384]⟩
abbrev S32x20000 : Shape := ⟨2, ![32, 20000]⟩
abbrev S32x160000 : Shape := ⟨2, ![32, 160000]⟩
abbrev S32x2048 : Shape := ⟨2, ![32, 2048]⟩
abbrev S32x16384 : Shape := ⟨2, ![32, 16384]⟩
abbrev S32x1024 : Shape := ⟨2, ![32, 1024]⟩
abbrev S32x128 : Shape := ⟨2, ![32, 128]⟩
abbrev S256x128 : Shape := ⟨2, ![256, 128]⟩
abbrev S256x128x1 : Shape := ⟨3, ![256, 128, 1]⟩
abbrev S64x16384 : Shape := ⟨2, ![64, 16384]⟩
abbrev S160000x32 : Shape := ⟨2, ![160000, 32]⟩

abbrev nBuf : Space → Nat
  | .hbm => 154
  | .vmem => 7
  | .smem => 0
  | _ => 0

abbrev hbmTy0_0 (i : Nat) : BufTy := match i % 128 with
  | 0 => ⟨S20000x32, .f32⟩
  | 1 => ⟨S20000x4, .i32⟩
  | 2 => ⟨S32, .f32⟩
  | 3 => ⟨S32, .f32⟩
  | 4 => ⟨S32x8, .f32⟩
  | 5 => ⟨S8, .f32⟩
  | 6 => ⟨S3x3x3x32x256, .f32⟩
  | 7 => ⟨S256, .f32⟩
  | 8 => ⟨S3x3x3x32x32, .f32⟩
  | 9 => ⟨S32, .f32⟩
  | 10 => ⟨S32, .i32⟩
  | 11 => ⟨S_, .i32⟩
  | 12 => ⟨S_, .i32⟩
  | 13 => ⟨S32, .i32⟩
  | 14 => ⟨S32, .i32⟩
  | 15 => ⟨S32, .i32⟩
  | 16 => ⟨S_, .i32⟩
  | 17 => ⟨S32, .i32⟩
  | 18 => ⟨S32, .i1⟩
  | 19 => ⟨S32, .i32⟩
  | 20 => ⟨S32, .i32⟩
  | 21 => ⟨S_, .i32⟩
  | 22 => ⟨S32, .i32⟩
  | 23 => ⟨S32, .i1⟩
  | 24 => ⟨S32, .i1⟩
  | 25 => ⟨S_, .i32⟩
  | 26 => ⟨S32, .i32⟩
  | 27 => ⟨S32, .i32⟩
  | 28 => ⟨S32, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S32, .i32⟩
  | 36 => ⟨S32, .i32⟩
  | 37 => ⟨S_, .i32⟩
  | 38 => ⟨S32, .i32⟩
  | 39 => ⟨S32, .i1⟩
  | 40 => ⟨S_, .i32⟩
  | 41 => ⟨S32, .i32⟩
  | 42 => ⟨S32, .i1⟩
  | 43 => ⟨S_, .i32⟩
  | 44 => ⟨S_, .i1⟩
  | 45 => ⟨S32, .i1⟩
  | 46 => ⟨S32, .i1⟩
  | 47 => ⟨S32, .i1⟩
  | 48 => ⟨S32, .i32⟩
  | 49 => ⟨S32, .i32⟩
  | 50 => ⟨S32, .i32⟩
  | 51 => ⟨S32, .i32⟩
  | 52 => ⟨S32x1, .i32⟩
  | 53 => ⟨S1x32, .i32⟩
  | 54 => ⟨S_, .i32⟩
  | 55 => ⟨S1x32, .i32⟩
  | 56 => ⟨S1x32, .i32⟩
  | 57 => ⟨S1x32, .i32⟩
  | 58 => ⟨S1x32, .i32⟩
  | 59 => ⟨S32x32, .i32⟩
  | 60 => ⟨S32x32, .i32⟩
  | 61 => ⟨S32x32, .i1⟩
  | 62 => ⟨S32x32, .f32⟩
  | 63 => ⟨S32x40, .f32⟩
  | 64 => ⟨S40x32, .f32⟩
  | 65 => ⟨S32, .i32⟩
  | 66 => ⟨S32x1, .i32⟩
  | 67 => ⟨S_, .i32⟩
  | 68 => ⟨S_, .i32⟩
  | 69 => ⟨S32x1, .i32⟩
  | 70 => ⟨S32x1, .i32⟩
  | 71 => ⟨S32x1, .i32⟩
  | 72 => ⟨S_, .i32⟩
  | 73 => ⟨S32x1, .i32⟩
  | 74 => ⟨S32x1, .i1⟩
  | 75 => ⟨S32x1, .i32⟩
  | 76 => ⟨S32x1, .i32⟩
  | 77 => ⟨S_, .i32⟩
  | 78 => ⟨S32x1, .i32⟩
  | 79 => ⟨S32x1, .i1⟩
  | 80 => ⟨S32x1, .i1⟩
  | 81 => ⟨S_, .i32⟩
  | 82 => ⟨S32x1, .i32⟩
  | 83 => ⟨S32x1, .i32⟩
  | 84 => ⟨S32x1, .i32⟩
  | 85 => ⟨S1x32, .i32⟩
  | 86 => ⟨S32x32, .i32⟩
  | 87 => ⟨S32x32, .i32⟩
  | 88 => ⟨S32x32, .i1⟩
  | 89 => ⟨S32x32, .f32⟩
  | 90 => ⟨S_, .f32⟩
  | 91 => ⟨S32x8, .f32⟩
  | 92 => ⟨S32x40, .f32⟩
  | 93 => ⟨S_, .f32⟩
  | 94 => ⟨S32x32, .f32⟩
  | 95 => ⟨S_, .f32⟩
  | 96 => ⟨S32x8, .f32⟩
  | 97 => ⟨S32x40, .f32⟩
  | 98 => ⟨S64x40, .f32⟩
  | 99 => ⟨S40, .i32⟩
  | 100 => ⟨S16384, .i32⟩
  | 101 => ⟨S40x1, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S40x1, .i32⟩
  | 109 => ⟨S40x1, .i32⟩
  | 110 => ⟨S_, .i32⟩
  | 111 => ⟨S40x1, .i32⟩
  | 112 => ⟨S40x1, .i1⟩
  | 113 => ⟨S_, .i32⟩
  | 114 => ⟨S40x1, .i32⟩
  | 115 => ⟨S40x1, .i1⟩
  | 116 => ⟨S_, .i32⟩
  | 117 => ⟨S_, .i1⟩
  | 118 => ⟨S40x1, .i1⟩
  | 119 => ⟨S40x1, .i1⟩
  | 120 => ⟨S40x1, .i1⟩
  | 121 => ⟨S40x1, .i32⟩
  | 122 => ⟨S40x1, .i32⟩
  | 123 => ⟨S40x1, .i32⟩
  | 124 => ⟨S1x16384, .i32⟩
  | 125 => ⟨S_, .i32⟩
  | 126 => ⟨S_, .i32⟩
  | 127 => ⟨S_, .i32⟩
  | _ => ⟨S20000x32, .f32⟩

abbrev hbmTy0_1 (i : Nat) : BufTy := match i % 128 with
  | 0 => ⟨S_, .i1⟩
  | 1 => ⟨S_, .i32⟩
  | 2 => ⟨S_, .i32⟩
  | 3 => ⟨S1x16384, .i32⟩
  | 4 => ⟨S1x16384, .i32⟩
  | 5 => ⟨S_, .i32⟩
  | 6 => ⟨S1x16384, .i32⟩
  | 7 => ⟨S1x16384, .i1⟩
  | 8 => ⟨S_, .i32⟩
  | 9 => ⟨S1x16384, .i32⟩
  | 10 => ⟨S1x16384, .i1⟩
  | 11 => ⟨S_, .i32⟩
  | 12 => ⟨S_, .i1⟩
  | 13 => ⟨S1x16384, .i1⟩
  | 14 => ⟨S1x16384, .i1⟩
  | 15 => ⟨S1x16384, .i1⟩
  | 16 => ⟨S1x16384, .i32⟩
  | 17 => ⟨S1x16384, .i32⟩
  | 18 => ⟨S1x16384, .i32⟩
  | 19 => ⟨S40x16384, .i32⟩
  | 20 => ⟨S40x16384, .i32⟩
  | 21 => ⟨S40x16384, .i1⟩
  | 22 => ⟨S40x16384, .f32⟩
  | 23 => ⟨S32x20000, .f32⟩
  | 24 => ⟨S32x160000, .f32⟩
  | 25 => ⟨S160000x32, .f32⟩
  | _ => ⟨S20000x32, .f32⟩

abbrev hbmTy (i : Nat) : BufTy := match i / 128 with
  | 0 => hbmTy0_0 i
  | 1 => hbmTy0_1 i
  | _ => ⟨S20000x32, .f32⟩

abbrev bufTy : (tb : Table) → Fin (tcTables nBuf tb) → BufTy
  | .hbm, ⟨i, _⟩ => hbmTy i
  | .local _ .vmem, ⟨0, _⟩ => ⟨S32x2048, .f32⟩
  | .local _ .vmem, ⟨1, _⟩ => ⟨S32x2048, .f32⟩
  | .local _ .vmem, ⟨2, _⟩ => ⟨S40x32, .f32⟩
  | .local _ .vmem, ⟨3, _⟩ => ⟨S40x16384, .f32⟩
  | .local _ .vmem, ⟨4, _⟩ => ⟨S64x40, .f32⟩
  | .local _ .vmem, ⟨5, _⟩ => ⟨S32x16384, .f32⟩
  | .local _ .vmem, ⟨6, _⟩ => ⟨S32x16384, .f32⟩
  | _, _ => ⟨S20000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_c_1 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_c_2 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_cst : Ref sig .tc := ⟨.hbm, 90, rfl⟩
abbrev main_v24 : Ref sig .tc := ⟨.hbm, 91, rfl⟩
abbrev main_v25 : Ref sig .tc := ⟨.hbm, 92, rfl⟩
abbrev main_cst_3 : Ref sig .tc := ⟨.hbm, 93, rfl⟩
abbrev main_v26 : Ref sig .tc := ⟨.hbm, 94, rfl⟩
abbrev main_cst_4 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_c_5 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_c_1 : Ref sig .tc := ⟨.hbm, 110, rfl⟩
abbrev main_call3_v5 : Ref sig .tc := ⟨.hbm, 111, rfl⟩
abbrev main_call3_v6 : Ref sig .tc := ⟨.hbm, 112, rfl⟩
abbrev main_call3_c_2 : Ref sig .tc := ⟨.hbm, 113, rfl⟩
abbrev main_call3_v7 : Ref sig .tc := ⟨.hbm, 114, rfl⟩
abbrev main_call3_v8 : Ref sig .tc := ⟨.hbm, 115, rfl⟩
abbrev main_call3_c_3 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_v33 : Ref sig .tc := ⟨.hbm, 123, rfl⟩
abbrev main_v34 : Ref sig .tc := ⟨.hbm, 124, rfl⟩
abbrev main_c_6 : Ref sig .tc := ⟨.hbm, 125, rfl⟩
abbrev main_call4_v0 : Ref sig .tc := ⟨.hbm, 126, rfl⟩
abbrev main_call4_c : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_c_1 : Ref sig .tc := ⟨.hbm, 133, rfl⟩
abbrev main_call4_v5 : Ref sig .tc := ⟨.hbm, 134, rfl⟩
abbrev main_call4_v6 : Ref sig .tc := ⟨.hbm, 135, rfl⟩
abbrev main_call4_c_2 : Ref sig .tc := ⟨.hbm, 136, rfl⟩
abbrev main_call4_v7 : Ref sig .tc := ⟨.hbm, 137, rfl⟩
abbrev main_call4_v8 : Ref sig .tc := ⟨.hbm, 138, rfl⟩
abbrev main_call4_c_3 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_v12 : Ref sig .tc := ⟨.hbm, 143, rfl⟩
abbrev main_call4_v13 : Ref sig .tc := ⟨.hbm, 144, rfl⟩
abbrev main_call4_v14 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S20000x32 : Shape := ⟨2, ![20000, 32]⟩
abbrev S20000x4 : Shape := ⟨2, ![20000, 4]⟩
abbrev S32 : Shape := ⟨1, ![32]⟩
abbrev S32x8 : Shape := ⟨2, ![32, 8]⟩
abbrev S8 : Shape := ⟨1, ![8]⟩
abbrev S3x3x3x32x256 : Shape := ⟨5, ![3, 3, 3, 32, 256]⟩
abbrev S256 : Shape := ⟨1, ![256]⟩
abbrev S3x3x3x32x32 : Shape := ⟨5, ![3, 3, 3, 32, 32]⟩
abbrev S27x3 : Shape := ⟨2, ![27, 3]⟩
abbrev S20000x8 : Shape := ⟨2, ![20000, 8]⟩
abbrev S1x8 : Shape := ⟨2, ![1, 8]⟩
abbrev S_ : Shape := ⟨0, ![]⟩
abbrev S160000 : Shape := ⟨1, ![160000]⟩
abbrev S20000 : Shape := ⟨1, ![20000]⟩
abbrev S20000x1 : Shape := ⟨2, ![20000, 1]⟩
abbrev S1x32 : Shape := ⟨2, ![1, 32]⟩
abbrev S64x64x64 : Shape := ⟨3, ![64, 64, 64]⟩
abbrev S20000x3 : Shape := ⟨2, ![20000, 3]⟩
abbrev S1x20000 : Shape := ⟨2, ![1, 20000]⟩
abbrev S27x1 : Shape := ⟨2, ![27, 1]⟩
abbrev S27x20000 : Shape := ⟨2, ![27, 20000]⟩
abbrev S27x20000x1 : Shape := ⟨3, ![27, 20000, 1]⟩
abbrev S27x20000x3 : Shape := ⟨3, ![27, 20000, 3]⟩
abbrev S27x20000x32 : Shape := ⟨3, ![27, 20000, 32]⟩
abbrev S27x32x256 : Shape := ⟨3, ![27, 32, 256]⟩
abbrev S20000x256 : Shape := ⟨2, ![20000, 256]⟩
abbrev S1x256 : Shape := ⟨2, ![1, 256]⟩
abbrev S160000x32 : Shape := ⟨2, ![160000, 32]⟩
abbrev S160000x1 : Shape := ⟨2, ![160000, 1]⟩
abbrev S160000x4 : Shape := ⟨2, ![160000, 4]⟩
abbrev S20000x8x4 : Shape := ⟨3, ![20000, 8, 4]⟩
abbrev S128x128x128 : Shape := ⟨3, ![128, 128, 128]⟩
abbrev S160000x3 : Shape := ⟨2, ![160000, 3]⟩
abbrev S1x160000 : Shape := ⟨2, ![1, 160000]⟩
abbrev S27x160000 : Shape := ⟨2, ![27, 160000]⟩
abbrev S27x160000x1 : Shape := ⟨3, ![27, 160000, 1]⟩
abbrev S27x160000x3 : Shape := ⟨3, ![27, 160000, 3]⟩
abbrev S27x160000x32 : Shape := ⟨3, ![27, 160000, 32]⟩
abbrev S27x32x32 : Shape := ⟨3, ![27, 32, 32]⟩
abbrev S160000x4x8 : Shape := ⟨3, ![160000, 4, 8]⟩

abbrev nBuf : Space → Nat
  | .hbm => 584
  | .vmem => 0
  | .smem => 0
  | _ => 0

abbrev hbmTy0_0 (i : Nat) : BufTy := match i % 128 with
  | 0 => ⟨S20000x32, .f32⟩
  | 1 => ⟨S20000x4, .i32⟩
  | 2 => ⟨S32, .f32⟩
  | 3 => ⟨S32, .f32⟩
  | 4 => ⟨S32x8, .f32⟩
  | 5 => ⟨S8, .f32⟩
  | 6 => ⟨S3x3x3x32x256, .f32⟩
  | 7 => ⟨S256, .f32⟩
  | 8 => ⟨S3x3x3x32x32, .f32⟩
  | 9 => ⟨S32, .f32⟩
  | 10 => ⟨S27x3, .i32⟩
  | 11 => ⟨S27x3, .i32⟩
  | 12 => ⟨S20000x8, .f32⟩
  | 13 => ⟨S1x8, .f32⟩
  | 14 => ⟨S20000x8, .f32⟩
  | 15 => ⟨S20000x8, .f32⟩
  | 16 => ⟨S_, .f32⟩
  | 17 => ⟨S20000x8, .f32⟩
  | 18 => ⟨S20000x8, .i1⟩
  | 19 => ⟨S160000, .i1⟩
  | 20 => ⟨S160000, .f32⟩
  | 21 => ⟨S_, .f32⟩
  | 22 => ⟨S20000, .f32⟩
  | 23 => ⟨S20000x1, .f32⟩
  | 24 => ⟨S_, .f32⟩
  | 25 => ⟨S20000x1, .f32⟩
  | 26 => ⟨S20000x1, .f32⟩
  | 27 => ⟨S_, .i32⟩
  | 28 => ⟨S_, .f32⟩
  | 29 => ⟨S20000, .f32⟩
  | 30 => ⟨S20000x1, .f32⟩
  | 31 => ⟨S_, .f32⟩
  | 32 => ⟨S20000x1, .f32⟩
  | 33 => ⟨S20000x1, .f32⟩
  | 34 => ⟨S20000x32, .f32⟩
  | 35 => ⟨S20000x32, .f32⟩
  | 36 => ⟨S20000x32, .f32⟩
  | 37 => ⟨S_, .f32⟩
  | 38 => ⟨S_, .f32⟩
  | 39 => ⟨S_, .f32⟩
  | 40 => ⟨S_, .f32⟩
  | 41 => ⟨S20000, .f32⟩
  | 42 => ⟨S20000x1, .f32⟩
  | 43 => ⟨S20000x1, .f32⟩
  | 44 => ⟨S20000x1, .f32⟩
  | 45 => ⟨S_, .f32⟩
  | 46 => ⟨S_, .i1⟩
  | 47 => ⟨S_, .f32⟩
  | 48 => ⟨S_, .f32⟩
  | 49 => ⟨S20000x1, .f32⟩
  | 50 => ⟨S20000x1, .f32⟩
  | 51 => ⟨S20000x32, .f32⟩
  | 52 => ⟨S20000x32, .f32⟩
  | 53 => ⟨S_, .f32⟩
  | 54 => ⟨S20000x1, .f32⟩
  | 55 => ⟨S20000x1, .f32⟩
  | 56 => ⟨S20000x1, .f32⟩
  | 57 => ⟨S20000x32, .f32⟩
  | 58 => ⟨S20000x32, .f32⟩
  | 59 => ⟨S1x32, .f32⟩
  | 60 => ⟨S20000x32, .f32⟩
  | 61 => ⟨S20000x32, .f32⟩
  | 62 => ⟨S1x32, .f32⟩
  | 63 => ⟨S20000x32, .f32⟩
  | 64 => ⟨S20000x32, .f32⟩
  | 65 => ⟨S20000x32, .f32⟩
  | 66 => ⟨S20000x32, .f32⟩
  | 67 => ⟨S_, .f32⟩
  | 68 => ⟨S20000x32, .f32⟩
  | 69 => ⟨S20000x32, .f32⟩
  | 70 => ⟨S_, .f32⟩
  | 71 => ⟨S20000x32, .f32⟩
  | 72 => ⟨S20000x32, .f32⟩
  | 73 => ⟨S20000x32, .f32⟩
  | 74 => ⟨S_, .i32⟩
  | 75 => ⟨S64x64x64, .i32⟩
  | 76 => ⟨S64x64x64, .i32⟩
  | 77 => ⟨S20000x1, .i32⟩
  | 78 => ⟨S20000, .i32⟩
  | 79 => ⟨S20000x1, .i32⟩
  | 80 => ⟨S20000, .i32⟩
  | 81 => ⟨S20000x1, .i32⟩
  | 82 => ⟨S20000, .i32⟩
  | 83 => ⟨S20000, .i32⟩
  | 84 => ⟨S_, .i32⟩
  | 85 => ⟨S20000, .i32⟩
  | 86 => ⟨S20000, .i1⟩
  | 87 => ⟨S_, .i32⟩
  | 88 => ⟨S20000, .i32⟩
  | 89 => ⟨S20000, .i32⟩
  | 90 => ⟨S20000, .i32⟩
  | 91 => ⟨S_, .i32⟩
  | 92 => ⟨S20000, .i32⟩
  | 93 => ⟨S20000, .i1⟩
  | 94 => ⟨S_, .i32⟩
  | 95 => ⟨S20000, .i32⟩
  | 96 => ⟨S20000, .i32⟩
  | 97 => ⟨S20000, .i32⟩
  | 98 => ⟨S_, .i32⟩
  | 99 => ⟨S20000, .i32⟩
  | 100 => ⟨S20000, .i1⟩
  | 101 => ⟨S_, .i32⟩
  | 102 => ⟨S20000, .i32⟩
  | 103 => ⟨S20000, .i32⟩
  | 104 => ⟨S20000, .i32⟩
  | 105 => ⟨S20000x1, .i32⟩
  | 106 => ⟨S20000x1, .i32⟩
  | 107 => ⟨S20000x1, .i32⟩
  | 108 => ⟨S20000x3, .i32⟩
  | 109 => ⟨S64x64x64, .i32⟩
  | 110 => ⟨S20000x1, .i32⟩
  | 111 => ⟨S20000, .i32⟩
  | 112 => ⟨S1x20000, .i32⟩
  | 113 => ⟨S27x1, .i32⟩
  | 114 => ⟨S27x20000, .i32⟩
  | 115 => ⟨S27x20000, .i32⟩
  | 116 => ⟨S27x20000, .i32⟩
  | 117 => ⟨S20000x1, .i32⟩
  | 118 => ⟨S20000, .i32⟩
  | 119 => ⟨S1x20000, .i32⟩
  | 120 => ⟨S27x1, .i32⟩
  | 121 => ⟨S27x20000, .i32⟩
  | 122 => ⟨S27x20000, .i32⟩
  | 123 => ⟨S27x20000, .i32⟩
  | 124 => ⟨S20000x1, .i32⟩
  | 125 => ⟨S20000, .i32⟩
  | 126 => ⟨S1x20000, .i32⟩
  | 127 => ⟨S27x1, .i32⟩
  | _ => ⟨S20000x32, .f32⟩

abbrev hbmTy0_1 (i : Nat) : BufTy := match i % 128 with
  | 0 => ⟨S27x20000, .i32⟩
  | 1 => ⟨S27x20000, .i32⟩
  | 2 => ⟨S27x20000, .i32⟩
  | 3 => ⟨S_, .i32⟩
  | 4 => ⟨S_, .i32⟩
  | 5 => ⟨S_, .i32⟩
  | 6 => ⟨S27x20000, .i32⟩
  | 7 => ⟨S27x20000, .i32⟩
  | 8 => ⟨S_, .i32⟩
  | 9 => ⟨S27x20000, .i32⟩
  | 10 => ⟨S27x20000, .i32⟩
  | 11 => ⟨S_, .i32⟩
  | 12 => ⟨S_, .i32⟩
  | 13 => ⟨S_, .i32⟩
  | 14 => ⟨S27x20000, .i32⟩
  | 15 => ⟨S27x20000, .i32⟩
  | 16 => ⟨S_, .i32⟩
  | 17 => ⟨S27x20000, .i32⟩
  | 18 => ⟨S27x20000, .i32⟩
  | 19 => ⟨S_, .i32⟩
  | 20 => ⟨S_, .i32⟩
  | 21 => ⟨S_, .i32⟩
  | 22 => ⟨S27x20000, .i32⟩
  | 23 => ⟨S27x20000, .i32⟩
  | 24 => ⟨S_, .i32⟩
  | 25 => ⟨S27x20000, .i32⟩
  | 26 => ⟨S27x20000, .i32⟩
  | 27 => ⟨S_, .i32⟩
  | 28 => ⟨S27x20000, .i32⟩
  | 29 => ⟨S27x20000, .i1⟩
  | 30 => ⟨S_, .i32⟩
  | 31 => ⟨S27x20000, .i32⟩
  | 32 => ⟨S27x20000, .i32⟩
  | 33 => ⟨S27x20000, .i32⟩
  | 34 => ⟨S_, .i32⟩
  | 35 => ⟨S27x20000, .i32⟩
  | 36 => ⟨S27x20000, .i1⟩
  | 37 => ⟨S_, .i32⟩
  | 38 => ⟨S27x20000, .i32⟩
  | 39 => ⟨S27x20000, .i32⟩
  | 40 => ⟨S27x20000, .i32⟩
  | 41 => ⟨S_, .i32⟩
  | 42 => ⟨S27x20000, .i32⟩
  | 43 => ⟨S27x20000, .i1⟩
  | 44 => ⟨S_, .i32⟩
  | 45 => ⟨S27x20000, .i32⟩
  | 46 => ⟨S27x20000, .i32⟩
  | 47 => ⟨S27x20000, .i32⟩
  | 48 => ⟨S27x20000x1, .i32⟩
  | 49 => ⟨S27x20000x1, .i32⟩
  | 50 => ⟨S27x20000x1, .i32⟩
  | 51 => ⟨S27x20000x3, .i32⟩
  | 52 => ⟨S27x20000, .i32⟩
  | 53 => ⟨S_, .i32⟩
  | 54 => ⟨S27x20000, .i32⟩
  | 55 => ⟨S27x20000, .i1⟩
  | 56 => ⟨S_, .i32⟩
  | 57 => ⟨S27x20000, .i32⟩
  | 58 => ⟨S27x20000, .i1⟩
  | 59 => ⟨S27x20000, .i1⟩
  | 60 => ⟨S_, .i32⟩
  | 61 => ⟨S27x20000, .i32⟩
  | 62 => ⟨S27x20000, .i1⟩
  | 63 => ⟨S27x20000, .i1⟩
  | 64 => ⟨S_, .i32⟩
  | 65 => ⟨S27x20000, .i32⟩
  | 66 => ⟨S27x20000, .i1⟩
  | 67 => ⟨S27x20000, .i1⟩
  | 68 => ⟨S_, .i32⟩
  | 69 => ⟨S27x20000, .i32⟩
  | 70 => ⟨S27x20000, .i1⟩
  | 71 => ⟨S27x20000, .i1⟩
  | 72 => ⟨S_, .i32⟩
  | 73 => ⟨S27x20000, .i32⟩
  | 74 => ⟨S27x20000, .i1⟩
  | 75 => ⟨S27x20000, .i1⟩
  | 76 => ⟨S_, .i32⟩
  | 77 => ⟨S27x20000, .i32⟩
  | 78 => ⟨S27x20000, .i1⟩
  | 79 => ⟨S27x20000, .i1⟩
  | 80 => ⟨S27x20000x1, .i1⟩
  | 81 => ⟨S_, .i32⟩
  | 82 => ⟨S_, .i32⟩
  | 83 => ⟨S27x20000, .i32⟩
  | 84 => ⟨S27x20000, .i32⟩
  | 85 => ⟨S_, .i32⟩
  | 86 => ⟨S27x20000, .i32⟩
  | 87 => ⟨S27x20000, .i1⟩
  | 88 => ⟨S_, .i32⟩
  | 89 => ⟨S27x20000, .i32⟩
  | 90 => ⟨S27x20000, .i32⟩
  | 91 => ⟨S27x20000, .i32⟩
  | 92 => ⟨S27x20000x1, .i32⟩
  | 93 => ⟨S27x20000x32, .f32⟩
  | 94 => ⟨S_, .f32⟩
  | 95 => ⟨S_, .f32⟩
  | 96 => ⟨S27x20000x32, .i1⟩
  | 97 => ⟨S27x20000x32, .f32⟩
  | 98 => ⟨S27x20000x32, .f32⟩
  | 99 => ⟨S27x32x256, .f32⟩
  | 100 => ⟨S20000x256, .f32⟩
  | 101 => ⟨S1x256, .f32⟩
  | 102 => ⟨S20000x256, .f32⟩
  | 103 => ⟨S20000x256, .f32⟩
  | 104 => ⟨S160000x32, .f32⟩
  | 105 => ⟨S160000x1, .f32⟩
  | 106 => ⟨S160000x32, .f32⟩
  | 107 => ⟨S160000x32, .f32⟩
  | 108 => ⟨S160000x4, .f32⟩
  | 109 => ⟨S160000x1, .f32⟩
  | 110 => ⟨S160000x4, .f32⟩
  | 111 => ⟨S160000x4, .f32⟩
  | 112 => ⟨S20000x8x4, .i32⟩
  | 113 => ⟨S160000x4, .i32⟩
  | 114 => ⟨S8, .i32⟩
  | 115 => ⟨S1x8, .i32⟩
  | 116 => ⟨S20000x8, .i32⟩
  | 117 => ⟨S160000, .i32⟩
  | 118 => ⟨S160000x1, .i32⟩
  | 119 => ⟨S160000, .i32⟩
  | 120 => ⟨S_, .i32⟩
  | 121 => ⟨S160000, .i32⟩
  | 122 => ⟨S160000, .i32⟩
  | 123 => ⟨S_, .i32⟩
  | 124 => ⟨S_, .i32⟩
  | 125 => ⟨S_, .i32⟩
  | 126 => ⟨S_, .i1⟩
  | 127 => ⟨S_, .i32⟩
  | _ => ⟨S20000x32, .f32⟩

abbrev hbmTy0_2 (i : Nat) : BufTy := match i % 128 with
  | 0 => ⟨S_, .i32⟩
  | 1 => ⟨S160000, .i32⟩
  | 2 => ⟨S160000, .i32⟩
  | 3 => ⟨S_, .i32⟩
  | 4 => ⟨S160000, .i32⟩
  | 5 => ⟨S160000, .i1⟩
  | 6 => ⟨S_, .i32⟩
  | 7 => ⟨S160000, .i32⟩
  | 8 => ⟨S160000, .i1⟩
  | 9 => ⟨S_, .i32⟩
  | 10 => ⟨S_, .i1⟩
  | 11 => ⟨S160000, .i1⟩
  | 12 => ⟨S160000, .i1⟩
  | 13 => ⟨S160000, .i1⟩
  | 14 => ⟨S160000, .i32⟩
  | 15 => ⟨S160000, .i32⟩
  | 16 => ⟨S160000, .i32⟩
  | 17 => ⟨S160000, .i32⟩
  | 18 => ⟨S160000x1, .i32⟩
  | 19 => ⟨S160000, .i32⟩
  | 20 => ⟨S_, .i32⟩
  | 21 => ⟨S160000, .i32⟩
  | 22 => ⟨S160000, .i32⟩
  | 23 => ⟨S_, .i32⟩
  | 24 => ⟨S_, .i32⟩
  | 25 => ⟨S160000, .i32⟩
  | 26 => ⟨S160000, .i32⟩
  | 27 => ⟨S160000, .i32⟩
  | 28 => ⟨S_, .i32⟩
  | 29 => ⟨S160000, .i32⟩
  | 30 => ⟨S160000, .i1⟩
  | 31 => ⟨S160000, .i32⟩
  | 32 => ⟨S160000, .i32⟩
  | 33 => ⟨S_, .i32⟩
  | 34 => ⟨S160000, .i32⟩
  | 35 => ⟨S160000, .i1⟩
  | 36 => ⟨S160000, .i1⟩
  | 37 => ⟨S_, .i32⟩
  | 38 => ⟨S160000, .i32⟩
  | 39 => ⟨S160000, .i32⟩
  | 40 => ⟨S160000, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S160000, .i32⟩
  | 48 => ⟨S160000, .i32⟩
  | 49 => ⟨S_, .i32⟩
  | 50 => ⟨S160000, .i32⟩
  | 51 => ⟨S160000, .i1⟩
  | 52 => ⟨S_, .i32⟩
  | 53 => ⟨S160000, .i32⟩
  | 54 => ⟨S160000, .i1⟩
  | 55 => ⟨S_, .i32⟩
  | 56 => ⟨S_, .i1⟩
  | 57 => ⟨S160000, .i1⟩
  | 58 => ⟨S160000, .i1⟩
  | 59 => ⟨S160000, .i1⟩
  | 60 => ⟨S160000, .i32⟩
  | 61 => ⟨S160000, .i32⟩
  | 62 => ⟨S160000, .i32⟩
  | 63 => ⟨S160000, .i32⟩
  | 64 => ⟨S160000x1, .i32⟩
  | 65 => ⟨S160000, .i32⟩
  | 66 => ⟨S_, .i32⟩
  | 67 => ⟨S160000, .i32⟩
  | 68 => ⟨S160000, .i32⟩
  | 69 => ⟨S_, .i32⟩
  | 70 => ⟨S_, .i32⟩
  | 71 => ⟨S160000, .i32⟩
  | 72 => ⟨S160000, .i32⟩
  | 73 => ⟨S160000, .i32⟩
  | 74 => ⟨S_, .i32⟩
  | 75 => ⟨S160000, .i32⟩
  | 76 => ⟨S160000, .i1⟩
  | 77 => ⟨S160000, .i32⟩
  | 78 => ⟨S160000, .i32⟩
  | 79 => ⟨S_, .i32⟩
  | 80 => ⟨S160000, .i32⟩
  | 81 => ⟨S160000, .i1⟩
  | 82 => ⟨S160000, .i1⟩
  | 83 => ⟨S_, .i32⟩
  | 84 => ⟨S160000, .i32⟩
  | 85 => ⟨S160000, .i32⟩
  | 86 => ⟨S160000, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S160000, .i32⟩
  | 94 => ⟨S160000, .i32⟩
  | 95 => ⟨S_, .i32⟩
  | 96 => ⟨S160000, .i32⟩
  | 97 => ⟨S160000, .i1⟩
  | 98 => ⟨S_, .i32⟩
  | 99 => ⟨S160000, .i32⟩
  | 100 => ⟨S160000, .i1⟩
  | 101 => ⟨S_, .i32⟩
  | 102 => ⟨S_, .i1⟩
  | 103 => ⟨S160000, .i1⟩
  | 104 => ⟨S160000, .i1⟩
  | 105 => ⟨S160000, .i1⟩
  | 106 => ⟨S160000, .i32⟩
  | 107 => ⟨S160000, .i32⟩
  | 108 => ⟨S160000, .i32⟩
  | 109 => ⟨S160000, .i32⟩
  | 110 => ⟨S160000x1, .i32⟩
  | 111 => ⟨S160000, .i32⟩
  | 112 => ⟨S160000x1, .i32⟩
  | 113 => ⟨S160000x1, .i32⟩
  | 114 => ⟨S160000x1, .i32⟩
  | 115 => ⟨S160000x1, .i32⟩
  | 116 => ⟨S160000x4, .i32⟩
  | 117 => ⟨S_, .f32⟩
  | 118 => ⟨S160000, .f32⟩
  | 119 => ⟨S160000x1, .f32⟩
  | 120 => ⟨S_, .f32⟩
  | 121 => ⟨S160000x1, .f32⟩
  | 122 => ⟨S160000x1, .f32⟩
  | 123 => ⟨S_, .i32⟩
  | 124 => ⟨S_, .f32⟩
  | 125 => ⟨S160000, .f32⟩
  | 126 => ⟨S160000x1, .f32⟩
  | 127 => ⟨S_, .f32⟩
  | _ => ⟨S20000x32, .f32⟩

abbrev hbmTy0_3 (i : Nat) : BufTy := match i % 128 with
  | 0 => ⟨S160000x1, .f32⟩
  | 1 => ⟨S160000x1, .f32⟩
  | 2 => ⟨S160000x32, .f32⟩
  | 3 => ⟨S160000x32, .f32⟩
  | 4 => ⟨S160000x32, .f32⟩
  | 5 => ⟨S_, .f32⟩
  | 6 => ⟨S_, .f32⟩
  | 7 => ⟨S_, .f32⟩
  | 8 => ⟨S_, .f32⟩
  | 9 => ⟨S160000, .f32⟩
  | 10 => ⟨S160000x1, .f32⟩
  | 11 => ⟨S160000x1, .f32⟩
  | 12 => ⟨S160000x1, .f32⟩
  | 13 => ⟨S_, .f32⟩
  | 14 => ⟨S_, .i1⟩
  | 15 => ⟨S_, .f32⟩
  | 16 => ⟨S_, .f32⟩
  | 17 => ⟨S160000x1, .f32⟩
  | 18 => ⟨S160000x1, .f32⟩
  | 19 => ⟨S160000x32, .f32⟩
  | 20 => ⟨S160000x32, .f32⟩
  | 21 => ⟨S_, .f32⟩
  | 22 => ⟨S160000x1, .f32⟩
  | 23 => ⟨S160000x1, .f32⟩
  | 24 => ⟨S160000x1, .f32⟩
  | 25 => ⟨S160000x32, .f32⟩
  | 26 => ⟨S160000x32, .f32⟩
  | 27 => ⟨S160000x32, .f32⟩
  | 28 => ⟨S160000x32, .f32⟩
  | 29 => ⟨S_, .f32⟩
  | 30 => ⟨S160000x32, .f32⟩
  | 31 => ⟨S160000x32, .f32⟩
  | 32 => ⟨S_, .f32⟩
  | 33 => ⟨S160000x32, .f32⟩
  | 34 => ⟨S160000x32, .f32⟩
  | 35 => ⟨S160000x32, .f32⟩
  | 36 => ⟨S_, .i32⟩
  | 37 => ⟨S128x128x128, .i32⟩
  | 38 => ⟨S128x128x128, .i32⟩
  | 39 => ⟨S160000x1, .i32⟩
  | 40 => ⟨S160000, .i32⟩
  | 41 => ⟨S160000x1, .i32⟩
  | 42 => ⟨S160000, .i32⟩
  | 43 => ⟨S160000x1, .i32⟩
  | 44 => ⟨S160000, .i32⟩
  | 45 => ⟨S160000, .i32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S160000x1, .i32⟩
  | 69 => ⟨S160000x1, .i32⟩
  | 70 => ⟨S160000x3, .i32⟩
  | 71 => ⟨S128x128x128, .i32⟩
  | 72 => ⟨S160000x1, .i32⟩
  | 73 => ⟨S160000, .i32⟩
  | 74 => ⟨S1x160000, .i32⟩
  | 75 => ⟨S27x1, .i32⟩
  | 76 => ⟨S27x160000, .i32⟩
  | 77 => ⟨S27x160000, .i32⟩
  | 78 => ⟨S27x160000, .i32⟩
  | 79 => ⟨S160000x1, .i32⟩
  | 80 => ⟨S160000, .i32⟩
  | 81 => ⟨S1x160000, .i32⟩
  | 82 => ⟨S27x1, .i32⟩
  | 83 => ⟨S27x160000, .i32⟩
  | 84 => ⟨S27x160000, .i32⟩
  | 85 => ⟨S27x160000, .i32⟩
  | 86 => ⟨S160000x1, .i32⟩
  | 87 => ⟨S160000, .i32⟩
  | 88 => ⟨S1x160000, .i32⟩
  | 89 => ⟨S27x1, .i32⟩
  | 90 => ⟨S27x160000, .i32⟩
  | 91 => ⟨S27x160000, .i32⟩
  | 92 => ⟨S27x160000, .i32⟩
  | 93 => ⟨S_, .i32⟩
  | 94 => ⟨S_, .i32⟩
  | 95 => ⟨S_, .i32⟩
  | 96 => ⟨S27x160000, .i32⟩
  | 97 => ⟨S27x160000, .i32⟩
  | 98 => ⟨S_, .i32⟩
  | 99 => ⟨S27x160000, .i32⟩
  | 100 => ⟨S27x160000, .i32⟩
  | 101 => ⟨S_, .i32⟩
  | 102 => ⟨S_, .i32⟩
  | 103 => ⟨S_, .i32⟩
  | 104 => ⟨S27x160000, .i32⟩
  | 105 => ⟨S27x160000, .i32⟩
  | 106 => ⟨S_, .i32⟩
  | 107 => ⟨S27x160000, .i32⟩
  | 108 => ⟨S27x160000, .i32⟩
  | 109 => ⟨S_, .i32⟩
  | 110 => ⟨S_, .i32⟩
  | 111 => ⟨S_, .i32⟩
  | 112 => ⟨S27x160000, .i32⟩
  | 113 => ⟨S27x160000, .i32⟩
  | 114 => ⟨S_, .i32⟩
  | 115 => ⟨S27x160000, .i32⟩
  | 116 => ⟨S27x160000, .i32⟩
  | 117 => ⟨S_, .i32⟩
  | 118 => ⟨S27x160000, .i32⟩
  | 119 => ⟨S27x160000, .i1⟩
  | 120 => ⟨S_, .i32⟩
  | 121 => ⟨S27x160000, .i32⟩
  | 122 => ⟨S27x160000, .i32⟩
  | 123 => ⟨S27x160000, .i32⟩
  | 124 => ⟨S_, .i32⟩
  | 125 => ⟨S27x160000, .i32⟩
  | 126 => ⟨S27x160000, .i1⟩
  | 127 => ⟨S_, .i32⟩
  | _ => ⟨S20000x32, .f32⟩

abbrev hbmTy0_4 (i : Nat) : BufTy := match i % 128 with
  | 0 => ⟨S27x160000, .i32⟩
  | 1 => ⟨S27x160000, .i32⟩
  | 2 => ⟨S27x160000, .i32⟩
  | 3 => ⟨S_, .i32⟩
  | 4 => ⟨S27x160000, .i32⟩
  | 5 => ⟨S27x160000, .i1⟩
  | 6 => ⟨S_, .i32⟩
  | 7 => ⟨S27x160000, .i32⟩
  | 8 => ⟨S27x160000, .i32⟩
  | 9 => ⟨S27x160000, .i32⟩
  | 10 => ⟨S27x160000x1, .i32⟩
  | 11 => ⟨S27x160000x1, .i32⟩
  | 12 => ⟨S27x160000x1, .i32⟩
  | 13 => ⟨S27x160000x3, .i32⟩
  | 14 => ⟨S27x160000, .i32⟩
  | 15 => ⟨S_, .i32⟩
  | 16 => ⟨S27x160000, .i32⟩
  | 17 => ⟨S27x160000, .i1⟩
  | 18 => ⟨S_, .i32⟩
  | 19 => ⟨S27x160000, .i32⟩
  | 20 => ⟨S27x160000, .i1⟩
  | 21 => ⟨S27x160000, .i1⟩
  | 22 => ⟨S_, .i32⟩
  | 23 => ⟨S27x160000, .i32⟩
  | 24 => ⟨S27x160000, .i1⟩
  | 25 => ⟨S27x160000, .i1⟩
  | 26 => ⟨S_, .i32⟩
  | 27 => ⟨S27x160000, .i32⟩
  | 28 => ⟨S27x160000, .i1⟩
  | 29 => ⟨S27x160000, .i1⟩
  | 30 => ⟨S_, .i32⟩
  | 31 => ⟨S27x160000, .i32⟩
  | 32 => ⟨S27x160000, .i1⟩
  | 33 => ⟨S27x160000, .i1⟩
  | 34 => ⟨S_, .i32⟩
  | 35 => ⟨S27x160000, .i32⟩
  | 36 => ⟨S27x160000, .i1⟩
  | 37 => ⟨S27x160000, .i1⟩
  | 38 => ⟨S_, .i32⟩
  | 39 => ⟨S27x160000, .i32⟩
  | 40 => ⟨S27x160000, .i1⟩
  | 41 => ⟨S27x160000, .i1⟩
  | 42 => ⟨S27x160000x1, .i1⟩
  | 43 => ⟨S_, .i32⟩
  | 44 => ⟨S_, .i32⟩
  | 45 => ⟨S27x160000, .i32⟩
  | 46 => ⟨S27x160000, .i32⟩
  | 47 => ⟨S_, .i32⟩
  | 48 => ⟨S27x160000, .i32⟩
  | 49 => ⟨S27x160000, .i1⟩
  | 50 => ⟨S_, .i32⟩
  | 51 => ⟨S27x160000, .i32⟩
  | 52 => ⟨S27x160000, .i32⟩
  | 53 => ⟨S27x160000, .i32⟩
  | 54 => ⟨S27x160000x1, .i32⟩
  | 55 => ⟨S27x160000x32, .f32⟩
  | 56 => ⟨S_, .f32⟩
  | 57 => ⟨S_, .f32⟩
  | 58 => ⟨S27x160000x32, .i1⟩
  | 59 => ⟨S27x160000x32, .f32⟩
  | 60 => ⟨S27x160000x32, .f32⟩
  | 61 => ⟨S27x32x32, .f32⟩
  | 62 => ⟨S160000x32, .f32⟩
  | 63 => ⟨S1x32, .f32⟩
  | 64 => ⟨S160000x32, .f32⟩
  | 65 => ⟨S160000x32, .f32⟩
  | 66 => ⟨S160000x4x8, .f32⟩
  | 67 => ⟨S160000x32, .f32⟩
  | 68 => ⟨S160000x32, .f32⟩
  | 69 => ⟨S160000x1, .f32⟩
  | 70 => ⟨S160000x32, .f32⟩
  | 71 => ⟨S160000x32, .f32⟩
  | _ => ⟨S20000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x32, .f32⟩

abbrev bufTy : (tb : Table) → Fin (tcTables nBuf tb) → BufTy
  | .hbm, ⟨i, _⟩ => hbmTy i
  | _, _ => ⟨S20000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_4 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v26 : Ref sig .tc := ⟨.hbm, 73, rfl⟩
abbrev main_c_5 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_6 : Ref sig .tc := ⟨.hbm, 84, rfl⟩
abbrev main_v36 : Ref sig .tc := ⟨.hbm, 85, rfl⟩
abbrev main_v37 : Ref sig .tc := ⟨.hbm, 86, rfl⟩
abbrev main_c_7 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_8 : Ref sig .tc := ⟨.hbm, 91, rfl⟩
abbrev main_v41 : Ref sig .tc := ⟨.hbm, 92, rfl⟩
abbrev main_v42 : Ref sig .tc := ⟨.hbm, 93, rfl⟩
abbrev main_c_9 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_10 : Ref sig .tc := ⟨.hbm, 98, rfl⟩
abbrev main_v46 : Ref sig .tc := ⟨.hbm, 99, rfl⟩
abbrev main_v47 : Ref sig .tc := ⟨.hbm, 100, rfl⟩
abbrev main_c_11 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_12 : Ref sig .tc := ⟨.hbm, 131, rfl⟩
abbrev main_c_13 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v77 : Ref sig .tc := ⟨.hbm, 138, rfl⟩
abbrev main_c_14 : Ref sig .tc := ⟨.hbm, 139, rfl⟩
abbrev main_c_15 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v78 : Ref sig .tc := ⟨.hbm, 146, rfl⟩
abbrev main_c_16 : Ref sig .tc := ⟨.hbm, 147, rfl⟩
abbrev main_c_17 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v79 : Ref sig .tc := ⟨.hbm, 154, rfl⟩
abbrev main_c_18 : Ref sig .tc := ⟨.hbm, 155, rfl⟩
abbrev main_v80 : Ref sig .tc := ⟨.hbm, 156, rfl⟩
abbrev main_v81 : Ref sig .tc := ⟨.hbm, 157, rfl⟩
abbrev main_c_19 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_20 : Ref sig .tc := ⟨.hbm, 162, rfl⟩
abbrev main_v85 : Ref sig .tc := ⟨.hbm, 163, rfl⟩
abbrev main_v86 : Ref sig .tc := ⟨.hbm, 164, rfl⟩
abbrev main_c_21 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_c_22 : Ref sig .tc := ⟨.hbm, 169, rfl⟩
abbrev main_v90 : Ref sig .tc := ⟨.hbm, 170, rfl⟩
abbrev main_v91 : Ref sig .tc := ⟨.hbm, 171, rfl⟩
abbrev main_c_23 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_c_24 : Ref sig .tc := ⟨.hbm, 181, rfl⟩
abbrev main_v100 : Ref sig .tc := ⟨.hbm, 182, rfl⟩
abbrev main_v101 : Ref sig .tc := ⟨.hbm, 183, rfl⟩
abbrev main_c_25 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_c_26 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_c_27 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_c_28 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_c_29 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_c_30 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_c_31 : Ref sig .tc := ⟨.hbm, 209, rfl⟩
abbrev main_call5_v0 : Ref sig .tc := ⟨.hbm, 210, rfl⟩
abbrev main_call5_v1 : Ref sig .tc := ⟨.hbm, 211, rfl⟩
abbrev main_v121 : Ref sig .tc := ⟨.hbm, 212, rfl⟩
abbrev main_c_32 : Ref sig .tc := ⟨.hbm, 213, rfl⟩
abbrev main_v122 : Ref sig .tc := ⟨.hbm, 214, rfl⟩
abbrev main_v123 : Ref sig .tc := ⟨.hbm, 215, rfl⟩
abbrev main_c_33 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_cst_34 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_c_35 : Ref sig .tc := ⟨.hbm, 248, rfl⟩
abbrev main_v151 : Ref sig .tc := ⟨.hbm, 249, rfl⟩
abbrev main_v152 : Ref sig .tc := ⟨.hbm, 250, rfl⟩
abbrev main_c_36 : Ref sig .tc := ⟨.hbm, 251, rfl⟩
abbrev main_call7_v0 : Ref sig .tc := ⟨.hbm, 252, rfl⟩
abbrev main_call7_c : Ref sig .tc := ⟨.hbm, 253, rfl⟩
abbrev main_call7_v1 : Ref sig .tc := ⟨.hbm, 254, rfl⟩
abbrev main_call7_c_0 : Ref sig .tc := ⟨.hbm, 255, rfl⟩
abbrev main_call7_v2 : Ref sig .tc := ⟨.hbm, 256, rfl⟩
abbrev main_call7_v3 : Ref sig .tc := ⟨.hbm, 257, rfl⟩
abbrev main_call7_v4 : Ref sig .tc := ⟨.hbm, 258, rfl⟩
abbrev main_call7_c_1 : Ref sig .tc := ⟨.hbm, 259, rfl⟩
abbrev main_call7_v5 : Ref sig .tc := ⟨.hbm, 260, rfl⟩
abbrev main_call7_v6 : Ref sig .tc := ⟨.hbm, 261, rfl⟩
abbrev main_call7_c_2 : Ref sig .tc := ⟨.hbm, 262, rfl⟩
abbrev main_call7_v7 : Ref sig .tc := ⟨.hbm, 263, rfl⟩
abbrev main_call7_v8 : Ref sig .tc := ⟨.hbm, 264, rfl⟩
abbrev main_call7_c_3 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_v12 : Ref sig .tc := ⟨.hbm, 269, rfl⟩
abbrev main_call7_v13 : Ref sig .tc := ⟨.hbm, 270, rfl⟩
abbrev main_call7_v14 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_c_37 : Ref sig .tc := ⟨.hbm, 276, rfl⟩
abbrev main_v157 : Ref sig .tc := ⟨.hbm, 277, rfl⟩
abbrev main_v158 : Ref sig .tc := ⟨.hbm, 278, rfl⟩
abbrev main_c_38 : Ref sig .tc := ⟨.hbm, 279, rfl⟩
abbrev main_call8_v0 : Ref sig .tc := ⟨.hbm, 280, rfl⟩
abbrev main_call8_v1 : Ref sig .tc := ⟨.hbm, 281, rfl⟩
abbrev main_call8_v2 : Ref sig .tc := ⟨.hbm, 282, rfl⟩
abbrev main_call8_v3 : Ref sig .tc := ⟨.hbm, 283, rfl⟩
abbrev main_call8_v4 : Ref sig .tc := ⟨.hbm, 284, rfl⟩
abbrev main_call8_v5 : Ref sig .tc := ⟨.hbm, 285, rfl⟩
abbrev main_call8_v6 : Ref sig .tc := ⟨.hbm, 286, rfl⟩
abbrev main_call8_v7 : Ref sig .tc := ⟨.hbm, 287, rfl⟩
abbrev main_call8_v8 : Ref sig .tc := ⟨.hbm, 288, rfl⟩
abbrev main_call8_c : Ref sig .tc := ⟨.hbm, 289, rfl⟩
abbrev main_call8_v9 : Ref sig .tc := ⟨.hbm, 290, rfl⟩
abbrev main_call8_v10 : Ref sig .tc := ⟨.hbm, 291, rfl⟩
abbrev main_call8_v11 : Ref sig .tc := ⟨.hbm, 292, rfl⟩
abbrev main_call8_c_0 : Ref sig .tc := ⟨.hbm, 293, rfl⟩
abbrev main_call8_v12 : Ref sig .tc := ⟨.hbm, 294, rfl⟩
abbrev main_call8_v13 : Ref sig .tc := ⟨.hbm, 295, rfl⟩
abbrev main_v159 : Ref sig .tc := ⟨.hbm, 296, rfl⟩
abbrev main_c_39 : Ref sig .tc := ⟨.hbm, 297, rfl⟩
abbrev main_call9_v0 : Ref sig .tc := ⟨.hbm, 298, rfl⟩
abbrev main_call9_c : Ref sig .tc := ⟨.hbm, 299, rfl⟩
abbrev main_call9_v1 : Ref sig .tc := ⟨.hbm, 300, rfl⟩
abbrev main_call9_c_0 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_c_1 : Ref sig .tc := ⟨.hbm, 305, rfl⟩
abbrev main_call9_v5 : Ref sig .tc := ⟨.hbm, 306, rfl⟩
abbrev main_call9_v6 : Ref sig .tc := ⟨.hbm, 307, rfl⟩
abbrev main_call9_c_2 : Ref sig .tc := ⟨.hbm, 308, rfl⟩
abbrev main_call9_v7 : Ref sig .tc := ⟨.hbm, 309, rfl⟩
abbrev main_call9_v8 : Ref sig .tc := ⟨.hbm, 310, rfl⟩
abbrev main_call9_c_3 : Ref sig .tc := ⟨.hbm, 311, rfl⟩
abbrev main_call9_v9 : Ref sig .tc := ⟨.hbm, 312, rfl⟩
abbrev main_call9_v10 : Ref sig .tc := ⟨.hbm, 313, rfl⟩
abbrev main_call9_v11 : Ref sig .tc := ⟨.hbm, 314, rfl⟩
abbrev main_call9_v12 : Ref sig .tc := ⟨.hbm, 315, rfl⟩
abbrev main_call9_v13 : Ref sig .tc := ⟨.hbm, 316, rfl⟩
abbrev main_call9_v14 : Ref sig .tc := ⟨.hbm, 317, rfl⟩
abbrev main_v160 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_c_40 : Ref sig .tc := ⟨.hbm, 322, rfl⟩
abbrev main_v164 : Ref sig .tc := ⟨.hbm, 323, rfl⟩
abbrev main_v165 : Ref sig .tc := ⟨.hbm, 324, rfl⟩
abbrev main_c_41 : Ref sig .tc := ⟨.hbm, 325, rfl⟩
abbrev main_call10_v0 : Ref sig .tc := ⟨.hbm, 326, rfl⟩
abbrev main_call10_v1 : Ref sig .tc := ⟨.hbm, 327, rfl⟩
abbrev main_call10_v2 : Ref sig .tc := ⟨.hbm, 328, rfl⟩
abbrev main_call10_v3 : Ref sig .tc := ⟨.hbm, 329, rfl⟩
abbrev main_call10_v4 : Ref sig .tc := ⟨.hbm, 330, rfl⟩
abbrev main_call10_v5 : Ref sig .tc := ⟨.hbm, 331, rfl⟩
abbrev main_call10_v6 : Ref sig .tc := ⟨.hbm, 332, rfl⟩
abbrev main_call10_v7 : Ref sig .tc := ⟨.hbm, 333, rfl⟩
abbrev main_call10_v8 : Ref sig .tc := ⟨.hbm, 334, rfl⟩
abbrev main_call10_c : Ref sig .tc := ⟨.hbm, 335, rfl⟩
abbrev main_call10_v9 : Ref sig .tc := ⟨.hbm, 336, rfl⟩
abbrev main_call10_v10 : Ref sig .tc := ⟨.hbm, 337, rfl⟩
abbrev main_call10_v11 : Ref sig .tc := ⟨.hbm, 338, rfl⟩
abbrev main_call10_c_0 : Ref sig .tc := ⟨.hbm, 339, rfl⟩
abbrev main_call10_v12 : Ref sig .tc := ⟨.hbm, 340, rfl⟩
abbrev main_call10_v13 : Ref sig .tc := ⟨.hbm, 341, rfl⟩
abbrev main_v166 : Ref sig .tc := ⟨.hbm, 342, rfl⟩
abbrev main_c_42 : Ref sig .tc := ⟨.hbm, 343, rfl⟩
abbrev main_call11_v0 : Ref sig .tc := ⟨.hbm, 344, rfl⟩
abbrev main_call11_c : Ref sig .tc := ⟨.hbm, 345, rfl⟩
abbrev main_call11_v1 : Ref sig .tc := ⟨.hbm, 346, rfl⟩
abbrev main_call11_c_0 : Ref sig .tc := ⟨.hbm, 347, rfl⟩
abbrev main_call11_v2 : Ref sig .tc := ⟨.hbm, 348, rfl⟩
abbrev main_call11_v3 : Ref sig .tc := ⟨.hbm, 349, rfl⟩
abbrev main_call11_v4 : Ref sig .tc := ⟨.hbm, 350, rfl⟩
abbrev main_call11_c_1 : Ref sig .tc := ⟨.hbm, 351, rfl⟩
abbrev main_call11_v5 : Ref sig .tc := ⟨.hbm, 352, rfl⟩
abbrev main_call11_v6 : Ref sig .tc := ⟨.hbm, 353, rfl⟩
abbrev main_call11_c_2 : Ref sig .tc := ⟨.hbm, 354, rfl⟩
abbrev main_call11_v7 : Ref sig .tc := ⟨.hbm, 355, rfl⟩
abbrev main_call11_v8 : Ref sig .tc := ⟨.hbm, 356, rfl⟩
abbrev main_call11_c_3 : Ref sig .tc := ⟨.hbm, 357, rfl⟩
abbrev main_call11_v9 : Ref sig .tc := ⟨.hbm, 358, rfl⟩
abbrev main_call11_v10 : Ref sig .tc := ⟨.hbm, 359, rfl⟩
abbrev main_call11_v11 : Ref sig .tc := ⟨.hbm, 360, rfl⟩
abbrev main_call11_v12 : Ref sig .tc := ⟨.hbm, 361, rfl⟩
abbrev main_call11_v13 : Ref sig .tc := ⟨.hbm, 362, rfl⟩
abbrev main_call11_v14 : Ref sig .tc := ⟨.hbm, 363, rfl⟩
abbrev main_v167 : Ref sig .tc := ⟨.hbm, 364, rfl⟩
abbrev main_v168 : Ref sig .tc := ⟨.hbm, 365, rfl⟩
abbrev main_v169 : Ref sig .tc := ⟨.hbm, 366, rfl⟩
abbrev main_v170 : Ref sig .tc := ⟨.hbm, 367, rfl⟩
abbrev main_v171 : Ref sig .tc := ⟨.hbm, 368, rfl⟩
abbrev main_v172 : Ref sig .tc := ⟨.hbm, 369, rfl⟩
abbrev main_v173 : Ref sig .tc := ⟨.hbm, 370, rfl⟩
abbrev main_v174 : Ref sig .tc := ⟨.hbm, 371, rfl⟩
abbrev main_v175 : Ref sig .tc := ⟨.hbm, 372, rfl⟩
abbrev main_cst_43 : Ref sig .tc := ⟨.hbm, 373, rfl⟩
abbrev main_v176 : Ref sig .tc := ⟨.hbm, 374, rfl⟩
abbrev main_v177 : Ref sig .tc := ⟨.hbm, 375, rfl⟩
abbrev main_cst_44 : Ref sig .tc := ⟨.hbm, 376, rfl⟩
abbrev main_v178 : Ref sig .tc := ⟨.hbm, 377, rfl⟩
abbrev main_v179 : Ref sig .tc := ⟨.hbm, 378, rfl⟩
abbrev main_c_45 : Ref sig .tc := ⟨.hbm, 379, rfl⟩
abbrev main_call12_cst : Ref sig .tc := ⟨.hbm, 380, rfl⟩
abbrev main_call12_v0 : Ref sig .tc := ⟨.hbm, 381, rfl⟩
abbrev main_call12_v1 : Ref sig .tc := ⟨.hbm, 382, rfl⟩
abbrev main_call12_cst_0 : Ref sig .tc := ⟨.hbm, 383, rfl⟩
abbrev main_call12_v2 : Ref sig .tc := ⟨.hbm, 384, rfl⟩
abbrev main_call12_v3 : Ref sig .tc := ⟨.hbm, 385, rfl⟩
abbrev main_call12_v4 : Ref sig .tc := ⟨.hbm, 386, rfl⟩
abbrev main_call12_v5 : Ref sig .tc := ⟨.hbm, 387, rfl⟩
abbrev main_call12_v6 : Ref sig .tc := ⟨.hbm, 388, rfl⟩
abbrev main_call12_v7 : Ref sig .tc := ⟨.hbm, 389, rfl⟩
abbrev main_call12_cst_1 : Ref sig .tc := ⟨.hbm, 390, rfl⟩
abbrev main_call12_v8 : Ref sig .tc := ⟨.hbm, 391, rfl⟩
abbrev main_call12_cst_2 : Ref sig .tc := ⟨.hbm, 392, rfl⟩
abbrev main_call12_v9 : Ref sig .tc := ⟨.hbm, 393, rfl⟩
abbrev main_call12_v10 : Ref sig .tc := ⟨.hbm, 394, rfl⟩
abbrev main_call12_v11 : Ref sig .tc := ⟨.hbm, 395, rfl⟩
abbrev main_call12_v12 : Ref sig .tc := ⟨.hbm, 396, rfl⟩
abbrev main_call12_cst_3 : Ref sig .tc := ⟨.hbm, 397, rfl⟩
abbrev main_call12_v13 : Ref sig .tc := ⟨.hbm, 398, rfl⟩
abbrev main_call12_cst_4 : Ref sig .tc := ⟨.hbm, 399, rfl⟩
abbrev main_call12_call0_v0 : Ref sig .tc := ⟨.hbm, 400, rfl⟩
abbrev main_call12_call0_v1 : Ref sig .tc := ⟨.hbm, 401, rfl⟩
abbrev main_v180 : Ref sig .tc := ⟨.hbm, 402, rfl⟩
abbrev main_v181 : Ref sig .tc := ⟨.hbm, 403, rfl⟩
abbrev main_v182 : Ref sig .tc := ⟨.hbm, 404, rfl⟩
abbrev main_cst_46 : Ref sig .tc := ⟨.hbm, 405, rfl⟩
abbrev main_v183 : Ref sig .tc := ⟨.hbm, 406, rfl⟩
abbrev main_v184 : Ref sig .tc := ⟨.hbm, 407, rfl⟩
abbrev main_v185 : Ref sig .tc := ⟨.hbm, 408, rfl⟩
abbrev main_v186 : Ref sig .tc := ⟨.hbm, 409, rfl⟩
abbrev main_v187 : Ref sig .tc := ⟨.hbm, 410, rfl⟩
abbrev main_call13_v0 : Ref sig .tc := ⟨.hbm, 411, rfl⟩
abbrev main_call13_v1 : Ref sig .tc := ⟨.hbm, 412, rfl⟩
abbrev main_call13_cst : Ref sig .tc := ⟨.hbm, 413, rfl⟩
abbrev main_call13_v2 : Ref sig .tc := ⟨.hbm, 414, rfl⟩
abbrev main_call13_v3 : Ref sig .tc := ⟨.hbm, 415, rfl⟩
abbrev main_call13_cst_0 : Ref sig .tc := ⟨.hbm, 416, rfl⟩
abbrev main_call13_v4 : Ref sig .tc := ⟨.hbm, 417, rfl⟩
abbrev main_call13_v5 : Ref sig .tc := ⟨.hbm, 418, rfl⟩
abbrev main_v188 : Ref sig .tc := ⟨.hbm, 419, rfl⟩
abbrev main_c_47 : Ref sig .tc := ⟨.hbm, 420, rfl⟩
abbrev main_v189 : Ref sig .tc := ⟨.hbm, 421, rfl⟩
abbrev main_v190 : Ref sig .tc := ⟨.hbm, 422, rfl⟩
abbrev main_v191 : Ref sig .tc := ⟨.hbm, 423, rfl⟩
abbrev main_v192 : Ref sig .tc := ⟨.hbm, 424, rfl⟩
abbrev main_v193 : Ref sig .tc := ⟨.hbm, 425, rfl⟩
abbrev main_v194 : Ref sig .tc := ⟨.hbm, 426, rfl⟩
abbrev main_v195 : Ref sig .tc := ⟨.hbm, 427, rfl⟩
abbrev main_v196 : Ref sig .tc := ⟨.hbm, 428, rfl⟩
abbrev main_v197 : Ref sig .tc := ⟨.hbm, 429, rfl⟩
abbrev main_c_48 : Ref sig .tc := ⟨.hbm, 430, rfl⟩
abbrev main_v198 : Ref sig .tc := ⟨.hbm, 431, rfl⟩
abbrev main_v199 : Ref sig .tc := ⟨.hbm, 432, rfl⟩
abbrev main_c_49 : Ref sig .tc := ⟨.hbm, 433, rfl⟩
abbrev main_v200 : Ref sig .tc := ⟨.hbm, 434, rfl⟩
abbrev main_v201 : Ref sig .tc := ⟨.hbm, 435, rfl⟩
abbrev main_v202 : Ref sig .tc := ⟨.hbm, 436, rfl⟩
abbrev main_c_50 : Ref sig .tc := ⟨.hbm, 437, rfl⟩
abbrev main_v203 : Ref sig .tc := ⟨.hbm, 438, rfl⟩
abbrev main_v204 : Ref sig .tc := ⟨.hbm, 439, rfl⟩
abbrev main_c_51 : Ref sig .tc := ⟨.hbm, 440, rfl⟩
abbrev main_v205 : Ref sig .tc := ⟨.hbm, 441, rfl⟩
abbrev main_v206 : Ref sig .tc := ⟨.hbm, 442, rfl⟩
abbrev main_v207 : Ref sig .tc := ⟨.hbm, 443, rfl⟩
abbrev main_c_52 : Ref sig .tc := ⟨.hbm, 444, rfl⟩
abbrev main_v208 : Ref sig .tc := ⟨.hbm, 445, rfl⟩
abbrev main_v209 : Ref sig .tc := ⟨.hbm, 446, rfl⟩
abbrev main_c_53 : Ref sig .tc := ⟨.hbm, 447, rfl⟩
abbrev main_v210 : Ref sig .tc := ⟨.hbm, 448, rfl⟩
abbrev main_v211 : Ref sig .tc := ⟨.hbm, 449, rfl⟩
abbrev main_v212 : Ref sig .tc := ⟨.hbm, 450, rfl⟩
abbrev main_v213 : Ref sig .tc := ⟨.hbm, 451, rfl⟩
abbrev main_v214 : Ref sig .tc := ⟨.hbm, 452, rfl⟩
abbrev main_v215 : Ref sig .tc := ⟨.hbm, 453, rfl⟩
abbrev main_v216 : Ref sig .tc := ⟨.hbm, 454, rfl⟩
abbrev main_v217 : Ref sig .tc := ⟨.hbm, 455, rfl⟩
abbrev main_v218 : Ref sig .tc := ⟨.hbm, 456, rfl⟩
abbrev main_v219 : Ref sig .tc := ⟨.hbm, 457, rfl⟩
abbrev main_v220 : Ref sig .tc := ⟨.hbm, 458, rfl⟩
abbrev main_v221 : Ref sig .tc := ⟨.hbm, 459, rfl⟩
abbrev main_v222 : Ref sig .tc := ⟨.hbm, 460, rfl⟩
abbrev main_v223 : Ref sig .tc := ⟨.hbm, 461, rfl⟩
abbrev main_v224 : Ref sig .tc := ⟨.hbm, 462, rfl⟩
abbrev main_v225 : Ref sig .tc := ⟨.hbm, 463, rfl⟩
abbrev main_v226 : Ref sig .tc := ⟨.hbm, 464, rfl⟩
abbrev main_v227 : Ref sig .tc := ⟨.hbm, 465, rfl⟩
abbrev main_v228 : Ref sig .tc := ⟨.hbm, 466, rfl⟩
abbrev main_v229 : Ref sig .tc := ⟨.hbm, 467, rfl⟩
abbrev main_v230 : Ref sig .tc := ⟨.hbm, 468, rfl⟩
abbrev main_v231 : Ref sig .tc := ⟨.hbm, 469, rfl⟩
abbrev main_v232 : Ref sig .tc := ⟨.hbm, 470, rfl⟩
abbrev main_v233 : Ref sig .tc := ⟨.hbm, 471, rfl⟩
abbrev main_v234 : Ref sig .tc := ⟨.hbm, 472, rfl⟩
abbrev main_v235 : Ref sig .tc := ⟨.hbm, 473, rfl⟩
abbrev main_v236 : Ref sig .tc := ⟨.hbm, 474, rfl⟩
abbrev main_v237 : Ref sig .tc := ⟨.hbm, 475, rfl⟩
abbrev main_v238 : Ref sig .tc := ⟨.hbm, 476, rfl⟩
abbrev main_c_54 : Ref sig .tc := ⟨.hbm, 477, rfl⟩
abbrev main_c_55 : Ref sig .tc := ⟨.hbm, 478, rfl⟩
abbrev main_call14_v0 : Ref sig .tc := ⟨.hbm, 479, rfl⟩
abbrev main_call14_v1 : Ref sig .tc := ⟨.hbm, 480, rfl⟩
abbrev main_call14_v2 : Ref sig .tc := ⟨.hbm, 481, rfl⟩
abbrev main_call14_v3 : Ref sig .tc := ⟨.hbm, 482, rfl⟩
abbrev main_call14_v4 : Ref sig .tc := ⟨.hbm, 483, rfl⟩
abbrev main_v239 : Ref sig .tc := ⟨.hbm, 484, rfl⟩
abbrev main_c_56 : Ref sig .tc := ⟨.hbm, 485, rfl⟩
abbrev main_c_57 : Ref sig .tc := ⟨.hbm, 486, rfl⟩
abbrev main_call15_v0 : Ref sig .tc := ⟨.hbm, 487, rfl⟩
abbrev main_call15_v1 : Ref sig .tc := ⟨.hbm, 488, rfl⟩
abbrev main_call15_v2 : Ref sig .tc := ⟨.hbm, 489, rfl⟩
abbrev main_call15_v3 : Ref sig .tc := ⟨.hbm, 490, rfl⟩
abbrev main_call15_v4 : Ref sig .tc := ⟨.hbm, 491, rfl⟩
abbrev main_v240 : Ref sig .tc := ⟨.hbm, 492, rfl⟩
abbrev main_c_58 : Ref sig .tc := ⟨.hbm, 493, rfl⟩
abbrev main_c_59 : Ref sig .tc := ⟨.hbm, 494, rfl⟩
abbrev main_call16_v0 : Ref sig .tc := ⟨.hbm, 495, rfl⟩
abbrev main_call16_v1 : Ref sig .tc := ⟨.hbm, 496, rfl⟩
abbrev main_call16_v2 : Ref sig .tc := ⟨.hbm, 497, rfl⟩
abbrev main_call16_v3 : Ref sig .tc := ⟨.hbm, 498, rfl⟩
abbrev main_call16_v4 : Ref sig .tc := ⟨.hbm, 499, rfl⟩
abbrev main_v241 : Ref sig .tc := ⟨.hbm, 500, rfl⟩
abbrev main_c_60 : Ref sig .tc := ⟨.hbm, 501, rfl⟩
abbrev main_v242 : Ref sig .tc := ⟨.hbm, 502, rfl⟩
abbrev main_v243 : Ref sig .tc := ⟨.hbm, 503, rfl⟩
abbrev main_c_61 : Ref sig .tc := ⟨.hbm, 504, rfl⟩
abbrev main_v244 : Ref sig .tc := ⟨.hbm, 505, rfl⟩
abbrev main_v245 : Ref sig .tc := ⟨.hbm, 506, rfl⟩
abbrev main_v246 : Ref sig .tc := ⟨.hbm, 507, rfl⟩
abbrev main_c_62 : Ref sig .tc := ⟨.hbm, 508, rfl⟩
abbrev main_v247 : Ref sig .tc := ⟨.hbm, 509, rfl⟩
abbrev main_v248 : Ref sig .tc := ⟨.hbm, 510, rfl⟩
abbrev main_c_63 : Ref sig .tc := ⟨.hbm, 511, rfl⟩
abbrev main_v249 : Ref sig .tc := ⟨.hbm, 512, rfl⟩
abbrev main_v250 : Ref sig .tc := ⟨.hbm, 513, rfl⟩
abbrev main_v251 : Ref sig .tc := ⟨.hbm, 514, rfl⟩
abbrev main_c_64 : Ref sig .tc := ⟨.hbm, 515, rfl⟩
abbrev main_v252 : Ref sig .tc := ⟨.hbm, 516, rfl⟩
abbrev main_v253 : Ref sig .tc := ⟨.hbm, 517, rfl⟩
abbrev main_c_65 : Ref sig .tc := ⟨.hbm, 518, rfl⟩
abbrev main_v254 : Ref sig .tc := ⟨.hbm, 519, rfl⟩
abbrev main_v255 : Ref sig .tc := ⟨.hbm, 520, rfl⟩
abbrev main_v256 : Ref sig .tc := ⟨.hbm, 521, rfl⟩
abbrev main_v257 : Ref sig .tc := ⟨.hbm, 522, rfl⟩
abbrev main_v258 : Ref sig .tc := ⟨.hbm, 523, rfl⟩
abbrev main_v259 : Ref sig .tc := ⟨.hbm, 524, rfl⟩
abbrev main_v260 : Ref sig .tc := ⟨.hbm, 525, rfl⟩
abbrev main_v261 : Ref sig .tc := ⟨.hbm, 526, rfl⟩
abbrev main_c_66 : Ref sig .tc := ⟨.hbm, 527, rfl⟩
abbrev main_v262 : Ref sig .tc := ⟨.hbm, 528, rfl⟩
abbrev main_v263 : Ref sig .tc := ⟨.hbm, 529, rfl⟩
abbrev main_c_67 : Ref sig .tc := ⟨.hbm, 530, rfl⟩
abbrev main_v264 : Ref sig .tc := ⟨.hbm, 531, rfl⟩
abbrev main_v265 : Ref sig .tc := ⟨.hbm, 532, rfl⟩
abbrev main_v266 : Ref sig .tc := ⟨.hbm, 533, rfl⟩
abbrev main_c_68 : Ref sig .tc := ⟨.hbm, 534, rfl⟩
abbrev main_v267 : Ref sig .tc := ⟨.hbm, 535, rfl⟩
abbrev main_v268 : Ref sig .tc := ⟨.hbm, 536, rfl⟩
abbrev main_v269 : Ref sig .tc := ⟨.hbm, 537, rfl⟩
abbrev main_c_69 : Ref sig .tc := ⟨.hbm, 538, rfl⟩
abbrev main_v270 : Ref sig .tc := ⟨.hbm, 539, rfl⟩
abbrev main_v271 : Ref sig .tc := ⟨.hbm, 540, rfl⟩
abbrev main_v272 : Ref sig .tc := ⟨.hbm, 541, rfl⟩
abbrev main_c_70 : Ref sig .tc := ⟨.hbm, 542, rfl⟩
abbrev main_v273 : Ref sig .tc := ⟨.hbm, 543, rfl⟩
abbrev main_v274 : Ref sig .tc := ⟨.hbm, 544, rfl⟩
abbrev main_v275 : Ref sig .tc := ⟨.hbm, 545, rfl⟩
abbrev main_c_71 : Ref sig .tc := ⟨.hbm, 546, rfl⟩
abbrev main_v276 : Ref sig .tc := ⟨.hbm, 547, rfl⟩
abbrev main_v277 : Ref sig .tc := ⟨.hbm, 548, rfl⟩
abbrev main_v278 : Ref sig .tc := ⟨.hbm, 549, rfl⟩
abbrev main_c_72 : Ref sig .tc := ⟨.hbm, 550, rfl⟩
abbrev main_v279 : Ref sig .tc := ⟨.hbm, 551, rfl⟩
abbrev main_v280 : Ref sig .tc := ⟨.hbm, 552, rfl⟩
abbrev main_v281 : Ref sig .tc := ⟨.hbm, 553, rfl⟩
abbrev main_v282 : Ref sig .tc := ⟨.hbm, 554, rfl⟩
abbrev main_c_73 : Ref sig .tc := ⟨.hbm, 555, rfl⟩
abbrev main_call17_v0 : Ref sig .tc := ⟨.hbm, 556, rfl⟩
abbrev main_call17_v1 : Ref sig .tc := ⟨.hbm, 557, rfl⟩
abbrev main_v283 : Ref sig .tc := ⟨.hbm, 558, rfl⟩
abbrev main_c_74 : Ref sig .tc := ⟨.hbm, 559, rfl⟩
abbrev main_v284 : Ref sig .tc := ⟨.hbm, 560, rfl⟩
abbrev main_v285 : Ref sig .tc := ⟨.hbm, 561, rfl⟩
abbrev main_c_75 : Ref sig .tc := ⟨.hbm, 562, rfl⟩
abbrev main_v286 : Ref sig .tc := ⟨.hbm, 563, rfl⟩
abbrev main_v287 : Ref sig .tc := ⟨.hbm, 564, rfl⟩
abbrev main_v288 : Ref sig .tc := ⟨.hbm, 565, rfl⟩
abbrev main_v289 : Ref sig .tc := ⟨.hbm, 566, rfl⟩
abbrev main_v290 : Ref sig .tc := ⟨.hbm, 567, rfl⟩
abbrev main_cst_76 : Ref sig .tc := ⟨.hbm, 568, rfl⟩
abbrev main_call18_v0 : Ref sig .tc := ⟨.hbm, 569, rfl⟩
abbrev main_call18_v1 : Ref sig .tc := ⟨.hbm, 570, rfl⟩
abbrev main_call18_v2 : Ref sig .tc := ⟨.hbm, 571, rfl⟩
abbrev main_v291 : Ref sig .tc := ⟨.hbm, 572, rfl⟩
abbrev main_v292 : Ref sig .tc := ⟨.hbm, 573, rfl⟩
abbrev main_v293 : Ref sig .tc := ⟨.hbm, 574, rfl⟩
abbrev main_v294 : Ref sig .tc := ⟨.hbm, 575, rfl⟩
abbrev main_v295 : Ref sig .tc := ⟨.hbm, 576, rfl⟩
abbrev main_v296 : Ref sig .tc := ⟨.hbm, 577, rfl⟩
abbrev main_v297 : Ref sig .tc := ⟨.hbm, 578, rfl⟩
abbrev main_v298 : Ref sig .tc := ⟨.hbm, 579, rfl⟩
abbrev main_v299 : Ref sig .tc := ⟨.hbm, 580, rfl⟩
abbrev main_v300 : Ref sig .tc := ⟨.hbm, 581, rfl⟩
abbrev main_v301 : Ref sig .tc := ⟨.hbm, 582, rfl⟩
abbrev main_v302 : Ref sig .tc := ⟨.hbm, 583, rfl⟩

abbrev nD : Nat := 1
abbrev τ : Topo := Topo.v7x

variable {F : FTy → Type} [FloatOps F]
-- ==== Proof.P.Frame.lean ====
/-
  The printed kernel's frame: from any memory it runs to the end, leaves its arguments as they were and every counter
  at zero. Nothing is said of what the staging buffers hold, so nothing of the values either.
-/
module

public import proofs.«01_k».proof.Proof.P.Body
public import Idealize.ShloMosaic.Lib.Pipeline.FrameSuffix

@[expose] public section

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]
variable (m : (ℓ : Loc nD τ sig) → Buf (Elt F) ℓ) (ρ : Dev nD → PrngReg)

/-- Proof data that name nothing but the arrays at the region's entry. -/
def dats (_ : Fin 1) (c : Dev nD) : Dat τ (Elt F) Unit ℕ (UR sig nD τ) ℕ cfg0 c where
  A w := V m c (Pipeline.arrRef spec0 w)
  after w _ := match w with
    | ⟨0, _⟩ | ⟨1, _⟩ | ⟨2, _⟩ | ⟨3, _⟩ | ⟨4, _⟩ => fun _ => Scalar.ofBits .f32 0#32
  Φ _ := Pipeline.ΦA spec0 c
  q _ := fullShare
  owed _ := 0

/-- Every window's buffer is left at some contents. -/
theorem body_obligation (c : Dev nD) :
    BodyObligationLoose (dats m 0 c) (defs₀ (F := F)) 𝒱₀ () Set.univ (fun _ => true) := fun t => by
  rw [bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩⟩
  iapply (sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4)) X0 X1 X2 X3 X4 _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

/-- The one array the lines after the region write: the transposed result. -/
theorem sfx_writes : ∀ ops ∈ ([hostOps1] : List (List (HloOp τ sig (Elt F)))), ∀ op ∈ ops,
    ∀ b : Ref sig .tc, Proc.devRef .tc b ∈ op.writes → b ∈ ({main_v42} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

/-- An argument, no window's array and not the result, holds at the end what it held at the start. -/
theorem run_main : θ_run defs (onTc (τ := τ) (main (F := F))) (s₀ m ρ) (fun r => (∀ c : Dev nD, ∀ b ∈ Pipeline.restRefs sig spec0 \ {main_v42},
      r.2.mem ((c.tc : Thread nD τ).loc b) = V m c b) ∧ r.2.sem = fun _ => 0) :=
  Pipeline.θ_run_frame_around_T_forget cfgs (dats m) 0 launch0 defs₀ 𝒱₀ (fun _ => true) {main_v42} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m 𝒱₀) (hA := fun _ _ => rfl) (hΦ := fun _ _ => rfl)
    (Q' := fun r => (∀ c : Dev nD, ∀ b ∈ Pipeline.restRefs sig spec0 \ {main_v42},
      r.2.mem ((c.tc : Thread nD τ).loc b) = V m c b) ∧ r.2.sem = fun _ => 0)
    (hQ' := fun _ h => ⟨fun c b hb => (h.1 c).2 b hb, h.2⟩)

end Cert.Kernel.Hand

end
-- ==== Proof.P.Args.lean ====
/-
  The kernel's frame: every run ends, faults nowhere, leaves the arguments as it found them and the counters at zero.
-/
module

public import proofs.«01_k».proof.Proof.P.Frame

@[expose] public section

set_option maxRecDepth 16384

noncomputable section

namespace Cert.Kernel.Hand

open Cert.Kernel Cert.Kernel.Gen
open Idealize.ShloMosaic Idealize.SL.Sem
open Idealize.ShloMosaic.TcCoe

variable {F : FTy → Type} [FloatOps F] (m : (ℓ : Loc nD τ sig) → Buf (Elt F) ℓ) (ρ : Dev nD → PrngReg)

/-- A buffer that is neither in a window nor the result is in the frame's rest. -/
theorem kept (b : Ref sig .tc) (hs : b.isScoped = false) (hw : ∀ w, Pipeline.arrRef spec0 w ≠ b) (hr : b ≠ main_v42) :
    b ∈ Pipeline.restRefs sig spec0 \ {main_v42} :=
  Finset.mem_sdiff.mpr ⟨Pipeline.mem_restRefs_of b hs hw, fun h => hr (Finset.mem_singleton.mp h)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    ⟨(h.1 c main_arg0 (kept _ (by decide) (by decide) (by decide))).trans (V_main_arg0 m c),
      (h.1 c main_arg1 (kept _ (by decide) (by decide) (by decide))).trans (V_main_arg1 m c),
      (h.1 c main_arg2 (kept _ (by decide) (by decide) (by decide))).trans (V_main_arg2 m c),
      (h.1 c main_arg3 (kept _ (by decide) (by decide) (by decide))).trans (V_main_arg3 m c),
      (h.1 c main_arg4 (kept _ (by decide) (by decide) (by decide))).trans (V_main_arg4 m c),
      (h.1 c main_arg5 (kept _ (by decide) (by decide) (by decide))).trans (V_main_arg5 m c),
      (h.1 c main_arg6 (kept _ (by decide) (by decide) (by decide))).trans (V_main_arg6 m c),
      (h.1 c main_arg7 (kept _ (by decide) (by decide) (by decide))).trans (V_main_arg7 m c),
      (h.1 c main_arg8 (kept _ (by decide) (by decide) (by decide))).trans (V_main_arg8 m c),
      (h.1 c main_arg9 (kept _ (by decide) (by decide) (by decide))).trans (V_main_arg9 m c)⟩, h.2⟩) (run_main m ρ)

end Cert.Kernel.Hand

end
-- ==== Proof.PI.Body.lean ====
/-
  The kernel body's triple, at any float values: on five whole staging buffers the body reads the four inputs and
  leaves in the fifth the value `bodyOut` of what they hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No variant: the body calls nothing. -/
abbrev 𝒱₀ : Variants := Variants.none

/-- The block `v0` with every lane repeated eight times, as the body makes it. -/
def wide (v0 : Vec F S32x2048 .f32) : FVec F S32x16384 .f32 :=
  k0_pay2 (k0_pay9 (k0_pay6 v0) (k0_pay7 v0) (k0_pay8 v0))
    (k0_pay10 (k0_pay4 v0) k0_pay5) (k0_pay11 (k0_pay4 v0) k0_pay5)
    (k0_pay14 (k0_pay12 (k0_pay4 v0)) (k0_pay13 k0_pay5))
    (k0_pay15 (k0_pay4 v0) k0_pay5) (k0_pay16 (k0_pay4 v0) k0_pay5)
    (k0_pay20 k0_pay5 (k0_pay17 (k0_pay4 v0)) (k0_pay18 k0_pay5) (k0_pay19 k0_pay5))
    (k0_pay21 (k0_pay4 v0) k0_pay5) (k0_pay22 (k0_pay4 v0) k0_pay5)
    (k0_pay25 k0_pay5 (k0_pay23 (k0_pay4 v0)) (k0_pay24 k0_pay5))
    (k0_pay26 (k0_pay4 v0) k0_pay5) (k0_pay27 (k0_pay4 v0) k0_pay5)
    (k0_pay29 k0_pay5 (k0_pay28 (k0_pay4 v0)))
    (k0_pay30 (k0_pay4 v0) k0_pay5)
    (concatenate S32x1024 1 [⟨S32x128, k0_pay32 (k0_pay4 v0) k0_pay5⟩, ⟨S32x128, k0_pay33 (k0_pay4 v0) k0_pay5⟩,
      ⟨S32x128, k0_pay34 (k0_pay4 v0) k0_pay5⟩, ⟨S32x128, k0_pay35 (k0_pay4 v0) k0_pay5⟩,
      ⟨S32x128, k0_pay36 (k0_pay4 v0) k0_pay5⟩, ⟨S32x128, k0_pay37 (k0_pay4 v0) k0_pay5⟩,
      ⟨S32x128, k0_pay38 (k0_pay4 v0) k0_pay5⟩, ⟨S32x128, k0_pay39 (k0_pay4 v0) k0_pay5⟩]
      concatenates_S32x128_S32x128_S32x128_S32x128_S32x128_S32x128_S32x128_S32x128_S32x1024_d1)
    (k0_pay1 (k0_pay4 v0) k0_pay5)

/-- What the body stores, of what the four input buffers hold. -/
def bodyOut (X0 : Vec F S32x2048 .f32) (X1 : Vec F S40x32 .f32) (X2 : Vec F S40x16384 .f32) (X3 : Vec F S64x40 .f32) :
    FVec F S32x16384 .f32 := k0_pay3 (wide X0) X1 X2 X3

omit [FloatOps F] in
/-- A load of a whole buffer, at offsets zero and the buffer's own sizes, reads what the buffer's view reads; -/
theorem readAt_all {κ : Kind} {sp : Space} {a b : Nat} {e : EltTy} (M : Memref sig κ sp ⟨2, ![a, b]⟩ e)
    (h : ∀ x, (![0, 0] : Fin 2 → Nat) x + (![a, b] : Fin 2 → Nat) x ≤ (⟨2, ![a, b]⟩ : Shape).size x) (f : M.view.ty.Contents (Elt F)) :
    M.view.readAt (Elt F) (Rect.unit (s := ⟨2, ![a, b]⟩) ![0, 0] ![a, b] h).toLoadRect f = M.view.read (Elt F) f := by
  funext x
  refine congrArg (M.view.read (Elt F) f) (funext fun k => Fin.ext ?_)
  fin_cases k <;> exact (Nat.zero_add _).trans (Nat.one_mul _)

omit [FloatOps F] in
/-- and a store there leaves what it stored. -/
theorem read_write_all {κ : Kind} {sp : Space} {a b : Nat} {e : EltTy} (M : Memref sig κ sp ⟨2, ![a, b]⟩ e)
    (h : ∀ x, (![0, 0] : Fin 2 → Nat) x + (![a, b] : Fin 2 → Nat) x ≤ (⟨2, ![a, b]⟩ : Shape).size x) (f : M.view.ty.Contents (Elt F))
    (w : (⟨2, ![a, b]⟩ : Shape).Idx → Elt F e) :
    M.view.read (Elt F) ((M.access (Rect.unit (s := ⟨2, ![a, b]⟩) ![0, 0] ![a, b] h)).write (Elt F) f w Finset.univ) = w :=
  (readAt_all M h _).symm.trans (View.read_write_univ _ _)

/-- From the four inputs at `X1 … X4` and the output at anything, the body runs and leaves the inputs as they were and
    the output at `bodyOut X1 X2 X3 X4`. -/
theorem sound_body (c : Dev nD) (E : Set ℕ) (i : grid0.Coords)
    (a1 : Memref sig .tc .vmem S32x2048 .f32) (h1 : a1.IsWhole) (a2 : Memref sig .tc .vmem S40x32 .f32) (h2 : a2.IsWhole)
    (a3 : Memref sig .tc .vmem S40x16384 .f32) (h3 : a3.IsWhole) (a4 : Memref sig .tc .vmem S64x40 .f32) (h4 : a4.IsWhole)
    (a5 : Memref sig .tc .vmem S32x16384 .f32) (h5 : a5.IsWhole)
    (X1 : Vec F S32x2048 .f32) (X2 : Vec F S40x32 .f32) (X3 : Vec F S40x16384 .f32) (X4 : Vec F S64x40 .f32)
    (X5 : Vec F S32x16384 .f32) (K : PUnit → sProp 𝕄) :
    iprop((owns (c : Thread nD τ) a1 fullShare X1 ∗ owns (c : Thread nD τ) a2 fullShare X2
            ∗ owns (c : Thread nD τ) a3 fullShare X3 ∗ owns (c : Thread nD τ) a4 fullShare X4
            ∗ owns (c : Thread nD τ) a5 fullShare X5)
          ∗ (iprop(owns (c : Thread nD τ) a1 fullShare X1 ∗ owns (c : Thread nD τ) a2 fullShare X2
            ∗ owns (c : Thread nD τ) a3 fullShare X3 ∗ owns (c : Thread nD τ) a4 fullShare X4
            ∗ owns (c : Thread nD τ) a5 fullShare (bodyOut X1 X2 X3 X4)) -∗ K ⟨⟩))
      ⊢ wp frame (wpE (defs₀ (F := F)) 𝒱₀ c none) E (cc0__c2s_body i a1 h1 a2 h2 a3 h3 a4 h4 a5 h5) K := by
  unfold owns
  simp only [cc0__c2s_body_eq_skeleton]; unfold cc0__c2s_body_skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  simp only [Prog.lift, Prog.bind_op, Prog.bind_ret, pure_bind]
  iintro ⟨⟨⟨%f1, %hf1, H1⟩, ⟨%f2, %hf2, H2⟩, ⟨%f3, %hf3, H3⟩, ⟨%f4, %hf4, H4⟩, ⟨%f5, %hf5, H5⟩⟩, Hk⟩
  sl_steps
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  iexists _
  isplitr; swap; · iexact H5
  ipureintro
  refine (read_write_all a5 _ _ _).trans ?_
  rw [← hf1, ← hf2, ← hf3, ← hf4, ← readAt_all a1 inb_S32x2048_S32x2048_0_0, ← readAt_all a2 inb_S40x32_S40x32_0_0,
    ← readAt_all a3 inb_S40x16384_S40x16384_0_0, ← readAt_all a4 inb_S64x40_S64x40_0_0]
  rfl

end Cert.KernelIdeal.Hand

end
-- ==== Proof.PI.Wide.lean ====
/-
  The body's repeated block read at an index: lane `x` of `wide v0` is lane `x / 8` of `v0`.
-/
module

public import proofs.«01_k».proof.Proof.PI.Body
public import Idealize.ShloMosaic.Lib.Pipeline.Value
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- The quotient by eight, rounded down, of one word, in the operations the body uses. -/
def eighth (y : BitVec 32) : BitVec 32 :=
  Scalar.select (IntOp.andi
      (IntOp.cmpi .ne (IntOp.subi ((IntOp.cmpi .sgt y 0#32).setWidth 32) ((IntOp.cmpi .slt y 0#32).setWidth 32))
        (Scalar.subi (Scalar.extui (Scalar.cmpi .sgt 8#32 0#32)) (Scalar.extui (Scalar.cmpi .slt 8#32 0#32))))
      (IntOp.cmpi .ne (IntOp.remsi .vector y 8#32) 0#32))
    (IntOp.subi (IntOp.divsi .vector y 8#32) 1#32) (IntOp.divsi .vector y 8#32)

/-- The word a gather reads its lane from: 128 more where the index is negative. -/
def nonneg (y : BitVec 32) : BitVec 32 := Scalar.select (IntOp.cmpi .slt y 0#32) (IntOp.addi y 128#32) y

/-- On the lanes of eight registers both give the quotient itself. -/
theorem eighth_lane : ∀ y : Fin 1024, (nonneg (eighth (BitVec.ofNat 32 y.val))).toNat % 128 = y.val / 8 := by
  decide +kernel

/-- The lane numbers of eight registers, each divided by eight. -/
def lanes : IVec S32x1024 32 := fun i => eighth (iota .tc S32x1024 32 [1] iota_S32x1024_d1_w32 i)

theorem lanes_apply (l : Fin 32) (y : Fin 1024) : lanes (ix2 l y) = eighth (BitVec.ofNat 32 y.val) :=
  congrArg (fun n => eighth (BitVec.ofNat 32 n)) (by simp)

theorem slice_lanes (t : Fin 8) : S32x1024.Slices ![0, 128 * t.val] S32x128 := ⟨rfl, fun a => by
  fin_cases a
  · exact Nat.le_refl 32
  · show 128 * t.val + 128 ≤ 1024; omega⟩
theorem slice_tall (t : Fin 8) : S256x128.Slices ![32 * t.val, 0] S32x128 := ⟨rfl, fun a => by
  fin_cases a
  · show 32 * t.val + 32 ≤ 256; omega
  · exact Nat.le_refl 128⟩
theorem slice_block (k : Fin 16) : S32x2048.Slices ![0, 128 * k.val] S32x128 := ⟨rfl, fun a => by
  fin_cases a
  · exact Nat.le_refl 32
  · show 128 * k.val + 128 ≤ 2048; omega⟩

/-- The eight registers of the index, one under another. -/
theorem idx8_eq : k0_pay5 = concatenate S256x128 0 (List.ofFn fun t : Fin 8 => (⟨S32x128, extractStridedSlice S32x128 ![0, 128 * t.val] lanes (slice_lanes t)⟩ : (s : Shape) × (s.Idx → BitVec 32)))
    concatenates_S32x128_S32x128_S32x128_S32x128_S32x128_S32x128_S32x128_S32x128_S256x128_d0 := rfl

/-- Register `k` of the block with every lane repeated eight times: eight copies of the register one under another,
    gathered, and the eight pieces set side by side. -/
def group (v : S32x2048.Idx → F .f32) (k : Fin 16) : S32x1024.Idx → F .f32 :=
  concatenate S32x1024 1 (List.ofFn fun t : Fin 8 => (⟨S32x128, extractStridedSlice S32x128 ![32 * t.val, 0]
      (dynamicGather (s := S256x128) 1
        (concatenate S256x128 0 (List.ofFn fun _ : Fin 8 => (⟨S32x128, extractStridedSlice S32x128 ![0, 128 * k.val] v (slice_block k)⟩ : (s : Shape) × (s.Idx → F .f32)))
          concatenates_S32x128_S32x128_S32x128_S32x128_S32x128_S32x128_S32x128_S32x128_S256x128_d0)
        (shapeCast S256x128 (shapeCast S256x128x1 (fun i => nonneg (k0_pay5 i)) shapeCasts_S256x128_S256x128x1) shapeCasts_S256x128x1_S256x128))
      (slice_tall t)⟩ : (s : Shape) × (s.Idx → F .f32)))
    concatenates_S32x128_S32x128_S32x128_S32x128_S32x128_S32x128_S32x128_S32x128_S32x1024_d1

theorem concat16 : Shape.Concatenates ((List.ofFn fun _ : Fin 16 => S32x1024)) S32x16384 1 := by decide

theorem wide_eq (v0 : Vec F S32x2048 .f32) : wide v0
    = concatenate S32x16384 1 (List.ofFn fun k : Fin 16 => (⟨S32x1024, group (shapeCast S32x2048 v0 shapeCasts_S32x2048_S32x2048) k⟩ : (s : Shape) × (s.Idx → F .f32)))
      concat16 := rfl

omit [FloatOps F] in
/-- Equal pieces set side by side, read at a lane; -/
theorem beside {α : Type} {R K N T : Nat} (f : Fin N → (⟨2, ![R, K]⟩ : Shape).Idx → α)
    (h : Shape.Concatenates ((List.ofFn fun n : Fin N => (⟨⟨2, ![R, K]⟩, f n⟩ : (s : Shape) × (s.Idx → α))).map (·.1)) ⟨2, ![R, T]⟩ 1)
    (l : Fin R) (y : Fin T) (n : Fin N) (hn : y.val / K = n.val) (i : Fin K) (hi : i.val = y.val % K) :
    concatenate (⟨2, ![R, T]⟩ : Shape) 1 (List.ofFn fun n : Fin N => (⟨⟨2, ![R, K]⟩, f n⟩ : (s : Shape) × (s.Idx → α))) h (ix2 l y)
      = f n (ix2 l i) :=
  concatenate_ofFn_apply (t := ⟨2, ![R, T]⟩) (s₁ := ⟨2, ![R, K]⟩) (1 : Fin 2) f h rfl K rfl (ix2 l y) n hn (ix2 l i) hi fun b hb => by
    match b with
    | ⟨0, _⟩ => rfl
    | ⟨1, _⟩ => exact absurd rfl hb

omit [FloatOps F] in
/-- and one under another, read at a row. -/
theorem under {α : Type} {R K N T : Nat} (f : Fin N → (⟨2, ![K, R]⟩ : Shape).Idx → α)
    (h : Shape.Concatenates ((List.ofFn fun n : Fin N => (⟨⟨2, ![K, R]⟩, f n⟩ : (s : Shape) × (s.Idx → α))).map (·.1)) ⟨2, ![T, R]⟩ 0)
    (y : Fin T) (l : Fin R) (n : Fin N) (hn : y.val / K = n.val) (i : Fin K) (hi : i.val = y.val % K) :
    concatenate (⟨2, ![T, R]⟩ : Shape) 0 (List.ofFn fun n : Fin N => (⟨⟨2, ![K, R]⟩, f n⟩ : (s : Shape) × (s.Idx → α))) h (ix2 y l)
      = f n (ix2 i l) :=
  concatenate_ofFn_apply (t := ⟨2, ![T, R]⟩) (s₁ := ⟨2, ![K, R]⟩) (0 : Fin 2) f h rfl K rfl (ix2 y l) n hn (ix2 i l) hi fun b hb => by
    match b with
    | ⟨0, _⟩ => exact absurd rfl hb
    | ⟨1, _⟩ => rfl

/-- Row `32 * (y / 128) + l` of the gather's index, at lane `y % 128`, names lane `y / 8`. -/
theorem idx_apply (l : Fin 32) (y : Fin 1024) :
    (nonneg (k0_pay5 (ix2 (n0 := 256) (n1 := 128) ⟨32 * (y.val / 128) + l.val, by omega⟩ ⟨y.val % 128, by omega⟩))).toNat % 128 = y.val / 8 := by
  have e : k0_pay5 (ix2 (n0 := 256) (n1 := 128) ⟨32 * (y.val / 128) + l.val, by omega⟩ ⟨y.val % 128, by omega⟩)
      = eighth (BitVec.ofNat 32 y.val) := by
    rw [idx8_eq]
    refine (under _ _ _ _ ⟨y.val / 128, by omega⟩ ?_ l ?_).trans ?_
    · show (32 * (y.val / 128) + l.val) / 32 = y.val / 128
      omega
    · show l.val = (32 * (y.val / 128) + l.val) % 32
      omega
    · refine Eq.trans ?_ (lanes_apply l y)
      refine congrArg lanes (funext fun a => Fin.ext ?_)
      match a with
      | ⟨0, _⟩ => exact Nat.zero_add _
      | ⟨1, _⟩ => exact (Nat.div_add_mod y.val 128)
  rw [e]
  exact eighth_lane y

omit [FloatOps F] in
theorem group_apply (v : S32x2048.Idx → F .f32) (k : Fin 16) (l : Fin 32) (y : Fin 1024) :
    group v k (ix2 l y) = v (ix2 l ⟨128 * k.val + y.val / 8, by omega⟩) := by
  unfold group
  rw [shapeCast_shapeCast]
  refine (beside _ _ l y ⟨y.val / 128, by omega⟩ rfl ⟨y.val % 128, by omega⟩ rfl).trans ?_
  have hrow : (extractStridedSlice S32x128 ![32 * (y.val / 128), 0] · (slice_tall ⟨y.val / 128, by omega⟩) (ix2 l ⟨y.val % 128, by omega⟩))
      = fun g : S256x128.Idx → F .f32 => g (ix2 ⟨32 * (y.val / 128) + l.val, by omega⟩ ⟨y.val % 128, by omega⟩) := by
    funext g
    refine congrArg g (funext fun a => Fin.ext ?_)
    match a with
    | ⟨0, _⟩ => rfl
    | ⟨1, _⟩ => exact Nat.zero_add _
  refine (congrFun hrow _).trans ?_
  have hlane : ∀ g : S256x128.Idx → F .f32, dynamicGather (s := S256x128) 1 g (fun i => nonneg (k0_pay5 i))
        (ix2 ⟨32 * (y.val / 128) + l.val, by omega⟩ ⟨y.val % 128, by omega⟩)
      = g (ix2 ⟨32 * (y.val / 128) + l.val, by omega⟩ ⟨y.val / 8, by omega⟩) := by
    intro g
    refine congrArg g (funext fun a => Fin.ext ?_)
    match a with
    | ⟨0, _⟩ => rfl
    | ⟨1, _⟩ => exact idx_apply l y
  refine (hlane _).trans ((under _ _ _ _ ⟨y.val / 128, by omega⟩ ?_ l ?_).trans ?_)
  · show (32 * (y.val / 128) + l.val) / 32 = y.val / 128
    omega
  · show l.val = (32 * (y.val / 128) + l.val) % 32
    omega
  · refine congrArg v (funext fun a => Fin.ext ?_)
    match a with
    | ⟨0, _⟩ => exact Nat.zero_add _
    | ⟨1, _⟩ => rfl

/-- Lane `x` of the repeated block is lane `x / 8` of the block. -/
theorem wide_apply (v0 : Vec F S32x2048 .f32) (l : Fin 32) (x : Fin 16384) :
    wide v0 (ix2 l x) = v0 (ix2 l ⟨x.val / 8, by omega⟩) := by
  rw [wide_eq, shapeCast_self]
  refine (beside _ _ l x ⟨x.val / 1024, by omega⟩ rfl ⟨x.val % 1024, by omega⟩ rfl).trans ?_
  rw [group_apply]
  refine congrArg v0 (funext fun a => Fin.ext ?_)
  match a with
  | ⟨0, _⟩ => rfl
  | ⟨1, _⟩ =>
    show 128 * (x.val / 1024) + x.val % 1024 / 8 = x.val / 8
    omega

end Cert.KernelIdeal.Hand

end
-- ==== Proof.PI.BodyVal.lean ====
/-
  What the body stores, read at an index over the extended reals: every output lane is a function of the one input lane
  it repeats.
-/
module

public import proofs.«01_k».proof.Proof.PI.Wide
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.ValueIdx
open scoped BigOperators

/-- Row `r`, lane `x` of the second product: `w` times the first product, masked. `col` is the input's column. -/
def row (p : Fin 40 → Fin 32 → EReal) (m : Fin 40 → EReal) (w : Fin 64 → Fin 40 → EReal) (col : Fin 32 → EReal)
    (r : Fin 64) : EReal := ∑ l : Fin 40, w r l * ((∑ c : Fin 32, p l c * col c) * m l)

/-- The skip row where its gate row is positive, zero elsewhere. -/
def gated (p : Fin 40 → Fin 32 → EReal) (m : Fin 40 → EReal) (w : Fin 64 → Fin 40 → EReal) (col : Fin 32 → EReal)
    (cc : Fin 32) : EReal :=
  if 0 < row p m w col ⟨32 + cc.val, by omega⟩ then row p m w col ⟨cc.val, by omega⟩ else 0

theorem bodyOut_apply (X0 : Vec Ideal S32x2048 .f32) (X1 : Vec Ideal S40x32 .f32) (X2 : Vec Ideal S40x16384 .f32)
    (X3 : Vec Ideal S64x40 .f32) (cc : Fin 32) (x : Fin 16384) :
    bodyOut (F := Ideal) X0 X1 X2 X3 (ix2 cc x)
      = gated (fun l c => X1 (ix2 l c)) (fun l => X2 (ix2 l x)) (fun r l => X3 (ix2 r l))
          (fun c => X0 (ix2 c ⟨x.val / 8, by omega⟩)) cc := by
  let pre : FVec Ideal S40x16384 .f32 := FloatOps.matmul (φ₁ := .f32) (φ₂ := .f32) (DotDims.plain 40 32 16384) none X1 (wide X0) (constant S40x16384 .f32 0x00000000#32)
  let prod : FVec Ideal S64x16384 .f32 := FloatOps.matmul (φ₁ := .f32) (φ₂ := .f32) (DotDims.plain 64 40 16384) none X3 (mulf pre X2) (constant S64x16384 .f32 0x00000000#32)
  have hpre : ∀ l : Fin 40, pre (ix2 l x) = ∑ c : Fin 32, X1 (ix2 l c) * X0 (ix2 c ⟨x.val / 8, by omega⟩) := fun l =>
    (Ideal.matmul_plain_apply _ _ _ _ _ _).trans ((congrArg (· + _) Ideal.ofBits_zero_f32).trans ((zero_add _).trans
      (Finset.sum_congr rfl fun c _ => congrArg (X1 (ix2 l c) * ·) (wide_apply X0 c x))))
  have hprod : ∀ r : Fin 64, prod (ix2 r x)
      = row (fun l c => X1 (ix2 l c)) (fun l => X2 (ix2 l x)) (fun r l => X3 (ix2 r l)) (fun c => X0 (ix2 c ⟨x.val / 8, by omega⟩)) r := fun r =>
    (Ideal.matmul_plain_apply _ _ _ _ _ _).trans ((congrArg (· + _) Ideal.ofBits_zero_f32).trans ((zero_add _).trans
      (Finset.sum_congr rfl fun l _ => congrArg (fun z => X3 (ix2 r l) * (z * X2 (ix2 l x))) (hpre l))))
  have e : bodyOut (F := Ideal) X0 X1 X2 X3 (ix2 cc x)
      = Scalar.select (FloatOps.cmpf (F := Ideal) (φ := .f32) .ogt (prod (ix2 ⟨32 + cc.val, by omega⟩ x)) (Ideal.ofBits .f32 0x00000000#32))
          (prod (ix2 ⟨cc.val, by omega⟩ x)) (Ideal.ofBits .f32 0x00000000#32) := by
    have e3 : bodyOut (F := Ideal) X0 X1 X2 X3 = k0_pay3 (wide X0) X1 X2 X3 := rfl
    rw [e3]
    unfold k0_pay3
    simp only [shapeCast_self]
    have h1 : ∀ (off : Nat) (h : S64x16384.Slices ![off, 0] S32x16384) (hh : off + cc.val < 64),
        extractStridedSlice S32x16384 ![off, 0] prod h (ix2 cc x) = prod (ix2 ⟨off + cc.val, hh⟩ x) := fun off h hh =>
      congrArg prod (funext fun a => Fin.ext (by
        match a with
        | ⟨0, _⟩ => rfl
        | ⟨1, _⟩ => exact Nat.zero_add _))
    refine (congrArg₂ (fun a b => Scalar.select (FloatOps.cmpf (F := Ideal) (φ := .f32) .ogt a (Ideal.ofBits .f32 0x00000000#32)) b (Ideal.ofBits .f32 0x00000000#32))
      (h1 32 slices_S64x16384_o32_0_S32x16384 (by omega)) (h1 0 slices_S64x16384_o0_0_S32x16384 (by omega))).trans ?_
    simp only [Nat.zero_add]
  rw [e, hprod, hprod, Ideal.ofBits_zero_f32]
  unfold gated
  show (if BitVec.ofBool (decide _) = 1 then _ else _) = _
  by_cases h : 0 < row (fun l c => X1 (ix2 l c)) (fun l => X2 (ix2 l x)) (fun r l => X3 (ix2 r l)) (fun c => X0 (ix2 c ⟨x.val / 8, by omega⟩)) ⟨32 + cc.val, by omega⟩
  · rw [if_pos h, decide_eq_true h]; rfl
  · rw [if_neg h, decide_eq_false h]; rfl

end Cert.KernelIdeal.Hand

end
-- ==== Proof.PI.Run.lean ====
/-
  The idealized kernel's run: from any memory it ends with every window's array at computed contents. The input's last
  block and the result's overhang their arrays, so of those two staging buffers only the part inside the array is
  stated.
-/
module

public import proofs.«01_k».proof.Proof.PI.BodyVal
public import Idealize.ShloMosaic.Lib.Pipeline.FrameSuffix
public import Idealize.ShloMosaic.Lib.Pipeline.ValueKit

@[expose] public section

set_option maxRecDepth 16384

noncomputable section

namespace Cert.KernelIdeal.Hand

open Cert.KernelIdeal Cert.KernelIdeal.Gen

open Idealize.ShloMosaic hiding ix2 eq_ix2
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable (m : (ℓ : Loc nD τ sig) → Buf (Elt Ideal) ℓ) (ρ : Dev nD → PrngReg)

/-- The input's block at a point, filled out past the array's end with zeros. -/
def inBlk (c : Dev nD) (t : Fin cfg0.N) : Vec Ideal S32x2048 .f32 :=
  win0_0.fill (grid0.coords t) (fun _ => (0 : EReal)) (iblk m c 0 t)

/-- What the body stores at a point when its input block is filled out so. -/
@[irreducible] def outBlk (c : Dev nD) (t : Fin cfg0.N) : Vec Ideal S32x16384 .f32 :=
  bodyOut (inBlk m c t) (iblk m c 1 t) (iblk m c 2 t) (iblk m c 3 t)

/-- The proof data: the arrays as the region finds them; after the body each input's buffer holds its block and the
    result's what the body stored. -/
def dats (_ : Fin 1) (c : Dev nD) : Dat τ (Elt Ideal) Unit ℕ (UR sig nD τ) ℕ cfg0 c where
  A w := V m c (Pipeline.arrRef spec0 w)
  after w t := match w with
    | ⟨0, _⟩ => inBlk m c t
    | ⟨1, _⟩ => iblk m c 1 t
    | ⟨2, _⟩ => iblk m c 2 t
    | ⟨3, _⟩ => iblk m c 3 t
    | ⟨4, _⟩ => outBlk m c t
  Φ _ := Pipeline.ΦA spec0 c
  q _ := fullShare
  owed _ := 0

theorem after_4 (c : Dev nD) (t : Fin cfg0.N) : (dats m 0 c).after (4 : Fin 5) t = outBlk m c t := rfl

theorem outBlk_eq (c : Dev nD) (t : Fin cfg0.N) :
    outBlk m c t = bodyOut (inBlk m c t) (iblk m c 1 t) (iblk m c 2 t) (iblk m c 3 t) := by unfold outBlk; rfl

/-- The input's buffer arrives just fetched: the block, and anything past the array's end. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl

theorem before_1 (c : Dev nD) (t : Fin cfg0.N) (d) : (dats m 0 c).before (1 : Fin 5) t d = iblk m c 1 t :=
  before0_1_of m (dats m 0 c) rfl (fun _ => rfl) t d

theorem before_2 (c : Dev nD) (t : Fin cfg0.N) (d) : (dats m 0 c).before (2 : Fin 5) t d = iblk m c 2 t :=
  before0_2_of m (dats m 0 c) rfl (fun _ => rfl) t d

theorem before_3 (c : Dev nD) (t : Fin cfg0.N) (d) : (dats m 0 c).before (3 : Fin 5) t d = iblk m c 3 t :=
  before0_3_of m (dats m 0 c) rfl (fun _ => rfl) t d

/-- The sizes of the input's block and the result's inside their arrays: all 32 rows, and the result's lanes at most
    eight times the input's. -/
theorem inside : ∀ t : Fin cfg0.N, win0_0.xsize (grid0.coords t) (0 : Fin 2) = 32
    ∧ win0_4.xsize (grid0.coords t) (1 : Fin 2) ≤ 8 * win0_0.xsize (grid0.coords t) (1 : Fin 2) := by
  decide +kernel

/-- The stored block at any index. -/
theorem bodyOut_at (X0 : Vec Ideal S32x2048 .f32) (X1 : Vec Ideal S40x32 .f32) (X2 : Vec Ideal S40x16384 .f32)
    (X3 : Vec Ideal S64x40 .f32) (i : S32x16384.Idx) (cc : Fin 32) (x : Fin 16384) (h0 : (i (0 : Fin 2)).val = cc.val)
    (h1 : (i (1 : Fin 2)).val = x.val) :
    bodyOut (F := Ideal) X0 X1 X2 X3 i
      = gated (fun l c => X1 (ix2 l c)) (fun l => X2 (ix2 l x)) (fun r l => X3 (ix2 r l))
          (fun c => X0 (ix2 c ⟨x.val / 8, by omega⟩)) cc := by
  have hi : i = ix2 cc x := (eq_ix2 i).trans (congrArg₂ ix2 (Fin.ext h0) (Fin.ext h1))
  exact (congrArg _ hi).trans (bodyOut_apply X0 X1 X2 X3 cc x)

/-- What the body stores inside the result's array does not depend on what fills the input's block out. -/
theorem cut_bodyOut (t : Fin cfg0.N) (d e : Vec Ideal S32x2048 .f32)
    (g : (win0_0.xblock (grid0.coords t)).Idx → Elt Ideal .f32) (X1 : Vec Ideal S40x32 .f32)
    (X2 : Vec Ideal S40x16384 .f32) (X3 : Vec Ideal S64x40 .f32) :
    win0_4.cut (grid0.coords t) (bodyOut (F := Ideal) (win0_0.fill (grid0.coords t) d g) X1 X2 X3)
      = win0_4.cut (grid0.coords t) (bodyOut (F := Ideal) (win0_0.fill (grid0.coords t) e g) X1 X2 X3) := by
  funext j
  have hlt : (j (1 : Fin 2)).val < win0_4.xsize (grid0.coords t) (1 : Fin 2) := (j (1 : Fin 2)).isLt
  have h0 : (j (0 : Fin 2)).val < 32 := lt_of_lt_of_le (j (0 : Fin 2)).isLt (win0_4.xsize_le (grid0.coords t) (0 : Fin 2))
  have h1 : (j (1 : Fin 2)).val < 16384 := lt_of_lt_of_le (j (1 : Fin 2)).isLt (win0_4.xsize_le (grid0.coords t) (1 : Fin 2))
  refine (bodyOut_at _ X1 X2 X3 (win0_4.xinj (grid0.coords t) j) ⟨_, h0⟩ ⟨_, h1⟩ rfl rfl).trans
    (Eq.trans ?_ (bodyOut_at _ X1 X2 X3 (win0_4.xinj (grid0.coords t) j) ⟨_, h0⟩ ⟨_, h1⟩ rfl rfl).symm)
  congr 1
  funext k
  have hm : win0_0.moved (grid0.coords t) (ix2 k ⟨(j (1 : Fin 2)).val / 8, by omega⟩) = true := by
    rw [Window.moved_iff]
    intro a
    match a with
    | ⟨0, _⟩ => exact lt_of_lt_of_eq k.isLt (inside t).1.symm
    | ⟨1, _⟩ =>
      have := (inside t).2
      show (j (1 : Fin 2)).val / 8 < win0_0.xsize (grid0.coords t) (1 : Fin 2)
      omega
  unfold Window.fill
  rw [dif_pos hm, dif_pos hm]

/-- The result's buffer, as the body leaves it, is what the proof data say on the part inside the array. -/
theorem out_eq (c : Dev nD) (t : Fin cfg0.N) (d : Vec Ideal S32x2048 .f32) :
    bodyOut (F := Ideal) (win0_0.fill (grid0.coords t) d (iblk m c 0 t)) (iblk m c 1 t) (iblk m c 2 t) (iblk m c 3 t)
      = win0_4.fill (grid0.coords t)
        (bodyOut (F := Ideal) (win0_0.fill (grid0.coords t) d (iblk m c 0 t)) (iblk m c 1 t) (iblk m c 2 t) (iblk m c 3 t))
        (win0_4.cut (grid0.coords t) ((dats m 0 c).after (4 : Fin 5) t)) := by
  rw [after_4, outBlk_eq]
  exact (win0_4.fill_congr_cut _ (cut_bodyOut t _ _ _ _ _ _)).symm

/-- At every point the body takes the buffers as it finds them to what the proof data say. -/
theorem body_obligation (c : Dev nD) :
    BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_body (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (iblk m c 1 t) (iblk m c 2 t) (iblk m c 3 t)
    ((dats m 0 c).before (4 : Fin 5) t d4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  have hx : win0_0.cut (grid0.coords t) (inBlk m c t) = iblk m c 0 t := win0_0.cut_fill _ _ _
  isplitl [H0]
  · iexists d0
    change _ ⊢ owns (c : Thread nD τ) (win0_0.stage (cfg0.slots t 0)) fullShare
      (win0_0.fill (grid0.coords t) d0 (win0_0.cut (grid0.coords t) (inBlk m c t)))
    rw [hx]; try iexact H0
  isplitl [H1]; · iexact H1
  isplitl [H2]; · iexact H2
  isplitl [H3]; · iexact H3
  iexists (bodyOut (F := Ideal) (win0_0.fill (grid0.coords t) d0 (iblk m c 0 t)) (iblk m c 1 t) (iblk m c 2 t) (iblk m c 3 t))
  exact Idealize.SL.BI.BIBase.Entails.of_eq (congrArg (owns (c : Thread nD τ) (win0_4.stage (cfg0.slots t 4)) fullShare) (out_eq m c t d0))

/-- The run: every window's array ends at its computed contents, every other array as the lines after the region
    leave it, every counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

/-- Where the windows' blocks start: the input's and the result's at the point's lanes, the others at zero. -/
theorem starts : ∀ t : Fin cfg0.N, (win0_0.index t (0 : Fin 2) = 0 ∧ win0_0.index t (1 : Fin 2) = t.val)
    ∧ (win0_4.index t (0 : Fin 2) = 0 ∧ win0_4.index t (1 : Fin 2) = t.val)
    ∧ (∀ a : Fin 2, win0_1.index t a = 0) ∧ (∀ a : Fin 2, win0_2.index t a = 0) ∧ ∀ a : Fin 2, win0_3.index t a = 0 := by
  decide +kernel

/-- A window that is its whole array: its block at any point is the array. -/
theorem whole_1 (c : Dev nD) (t : Fin cfg0.N) (i : S40x32.Idx) : iblk m c 1 t i = V m c main_v15 i :=
  congrArg (V m c main_v15) (funext fun a => Fin.ext (win0_1.rect_emb_val_of_index_zero t a ((starts t).2.2.1 a) i))

theorem whole_2 (c : Dev nD) (t : Fin cfg0.N) (i : S40x16384.Idx) : iblk m c 2 t i = V m c main_v39 i :=
  congrArg (V m c main_v39) (funext fun a => Fin.ext (win0_2.rect_emb_val_of_index_zero t a ((starts t).2.2.2.1 a) i))

theorem whole_3 (c : Dev nD) (t : Fin cfg0.N) (i : S64x40.Idx) : iblk m c 3 t i = V m c main_v29 i :=
  congrArg (V m c main_v29) (funext fun a => Fin.ext (win0_3.rect_emb_val_of_index_zero t a ((starts t).2.2.2.2 a) i))

/-- The input's block inside the array, read at its lane. -/
theorem inBlk_apply (c : Dev nD) (t : Fin cfg0.N) (k : Fin 32) (x : Fin 2048) (n : Fin 20000)
    (hn : n.val = t.val * 2048 + x.val) (hx : x.val < win0_0.xsize (grid0.coords t) (1 : Fin 2)) :
    inBlk m c t (ix2 k x) = V m c main_v40 (ix2 k n) := by
  have hm : win0_0.moved (grid0.coords t) (ix2 k x) = true := by
    rw [Window.moved_iff]
    intro a
    match a with
    | ⟨0, _⟩ => exact lt_of_lt_of_eq k.isLt (inside t).1.symm
    | ⟨1, _⟩ => exact hx
  unfold inBlk Window.fill
  rw [dif_pos hm]
  unfold iblk
  rw [View.read_apply]
  refine congrArg (V m c main_v40) (funext fun a => Fin.ext ?_)
  match a with
  | ⟨0, _⟩ =>
    refine (win0_0.rect_emb_val t _ (0 : Fin 2)).trans ?_
    rw [(starts t).1.1]; exact Nat.zero_add _
  | ⟨1, _⟩ =>
    refine (win0_0.rect_emb_val t _ (1 : Fin 2)).trans ?_
    rw [(starts t).1.2]; exact hn.symm

/-- The result array of the region in closed form. -/
def result (c : Dev nD) : Vec Ideal S32x160000 .f32 := fun i =>
  gated (fun l k => V m c main_v15 (ix2 l k))
    (fun l => V m c main_v39 (ix2 l ⟨(i (1 : Fin 2)).val % 16384, Nat.mod_lt _ (by decide)⟩))
    (fun r l => V m c main_v29 (ix2 r l))
    (fun k => V m c main_v40 (ix2 k ⟨(i (1 : Fin 2)).val / 8, by have := (i (1 : Fin 2)).isLt; change _ < 160000 at this; omega⟩))
    ⟨(i (0 : Fin 2)).val, (i (0 : Fin 2)).isLt⟩

theorem result_at (c : Dev nD) (i : S32x160000.Idx) (cc : Fin 32) (x : Fin 16384) (n : Fin 20000)
    (h0 : (i (0 : Fin 2)).val = cc.val) (h1 : (i (1 : Fin 2)).val % 16384 = x.val) (h2 : (i (1 : Fin 2)).val / 8 = n.val) :
    result m c i = gated (fun l k => V m c main_v15 (ix2 l k)) (fun l => V m c main_v39 (ix2 l x))
      (fun r l => V m c main_v29 (ix2 r l)) (fun k => V m c main_v40 (ix2 k n)) cc := by
  obtain ⟨_, hc⟩ := cc
  obtain ⟨_, hx⟩ := x
  obtain ⟨_, hn⟩ := n
  dsimp only at h0 h1 h2
  subst h0 h1 h2
  rfl

/-- The region leaves the result array at `result`. -/
theorem final_4 (c : Dev nD) : (dats m 0 c).arrAt (4 : Fin 5) cfg0.N = result m c := by
  refine (dats m 0 c).arrAt_eq_of_covers (4 : Fin 5) _ (by decide +kernel) fun t hf y => ?_
  have ht : t.val < 10 := t.isLt
  have hy1 : (y (1 : Fin 2)).val < win0_4.xsize (grid0.coords t) (1 : Fin 2) := (y (1 : Fin 2)).isLt
  have h0 : (y (0 : Fin 2)).val < 32 := lt_of_lt_of_le (y (0 : Fin 2)).isLt (win0_4.xsize_le (grid0.coords t) (0 : Fin 2))
  have h1 : (y (1 : Fin 2)).val < 16384 := lt_of_lt_of_le (y (1 : Fin 2)).isLt (win0_4.xsize_le (grid0.coords t) (1 : Fin 2))
  have e0 : ((win0_4.rect t).emb y (0 : Fin 2)).val = (y (0 : Fin 2)).val :=
    win0_4.rect_emb_val_of_index_zero t (0 : Fin 2) (starts t).2.1.1 y
  have e1 : ((win0_4.rect t).emb y (1 : Fin 2)).val = t.val * 16384 + (y (1 : Fin 2)).val :=
    (win0_4.rect_emb_val t y (1 : Fin 2)).trans (by rw [(starts t).2.1.2]; rfl)
  have hb : ((win0_4.rect t).emb y (1 : Fin 2)).val < 160000 := ((win0_4.rect t).emb y (1 : Fin 2)).isLt
  have hin := (inside t).2
  refine Eq.trans (b := outBlk m c t (win0_4.xinj (grid0.coords t) y)) rfl ?_
  refine Eq.trans ?_ (b := result m c ((win0_4.rect t).emb y)) rfl
  rw [outBlk_eq]
  refine (bodyOut_at _ _ _ _ (win0_4.xinj (grid0.coords t) y) ⟨_, h0⟩ ⟨_, h1⟩ rfl rfl).trans
    (Eq.trans ?_ (result_at m c _ ⟨_, h0⟩ ⟨_, h1⟩ ⟨t.val * 2048 + (y (1 : Fin 2)).val / 8, by omega⟩ e0
      (by rw [e1]; show _ = (y (1 : Fin 2)).val; omega) (by rw [e1]; show _ = t.val * 2048 + (y (1 : Fin 2)).val / 8; omega)).symm)
  have f1 : (fun (l : Fin 40) (k : Fin 32) => iblk m c 1 t (ix2 l k)) = fun l k => V m c main_v15 (ix2 l k) :=
    funext fun l => funext fun k => whole_1 m c t _
  have f2 : (fun (l : Fin 40) => iblk m c 2 t (ix2 l (⟨_, h1⟩ : Fin 16384))) = fun l => V m c main_v39 (ix2 l ⟨_, h1⟩) :=
    funext fun l => whole_2 m c t _
  have f3 : (fun (r : Fin 64) (l : Fin 40) => iblk m c 3 t (ix2 r l)) = fun r l => V m c main_v29 (ix2 r l) :=
    funext fun r => funext fun l => whole_3 m c t _
  have f0 : (fun (k : Fin 32) => inBlk m c t (ix2 k (⟨(y (1 : Fin 2)).val / 8, by omega⟩ : Fin 2048)))
      = fun k => V m c main_v40 (ix2 k ⟨t.val * 2048 + (y (1 : Fin 2)).val / 8, by omega⟩) :=
    funext fun k => inBlk_apply m c t k _ _ rfl (by show (y (1 : Fin 2)).val / 8 < _; omega)
  exact (congrArg (fun z => gated z _ _ _ _) f1).trans ((congrArg (fun z => gated _ z _ _ _) f2).trans
    ((congrArg (fun z => gated _ _ z _ _) f3).trans (congrArg (fun z => gated _ _ _ z _) f0)))

end Cert.KernelIdeal.Hand

end
-- ==== Proof.PI.Host.lean ====
/-
  The arrays the idealized kernel's host lines prepare before the region, read at an index: the gathering matrix, the
  mask over lanes, the reducing matrix and the transposed features.
-/
module

public import proofs.«01_k».proof.Proof.PI.Run
public import Idealize.ShloMosaic.Lib.StableHlo.RunRead
public import Idealize.ShloMosaic.Lib.IdealHost
public import Idealize.ShloMosaic.Lib.ValueLayout

@[expose] public section

set_option maxRecDepth 16384

noncomputable section

namespace Cert.KernelIdeal.Hand

open Cert.KernelIdeal Cert.KernelIdeal.Gen
open Idealize.ShloMosaic hiding ix2 eq_ix2
open Idealize.ShloMosaic.ValueIdx
open Idealize.ShloMosaic.TcCoe

variable (m : (ℓ : Loc nD τ sig) → Buf (Elt Ideal) ℓ)

/-! ## Whole-number division by eight, as the host writes it -/

/-- The sign of a word. -/
def sgn (x : BitVec 32) : BitVec 32 := if x = 0 then 0 else if x.msb then -1 else 1

/-- The floored quotient by eight. -/
def quo (x : BitVec 32) : BitVec 32 :=
  Scalar.select (IntOp.andi (IntOp.cmpi .ne (sgn x) (sgn 8#32)) (IntOp.cmpi .ne (IntOp.remsi .host x 8#32) 0#32))
    (IntOp.subi (IntOp.divsi .host x 8#32) 1#32) (IntOp.divsi .host x 8#32)

/-- The divisor, had it been zero one. -/
def divisor : BitVec 32 := Scalar.select (IntOp.cmpi .eq 8#32 0#32) 1#32 8#32

/-- The floored remainder by eight. -/
def remn (x : BitVec 32) : BitVec 32 :=
  Scalar.select (IntOp.andi (IntOp.cmpi .ne (IntOp.cmpi .slt (IntOp.remsi .host x divisor) 0#32) (IntOp.cmpi .slt divisor 0#32))
      (IntOp.cmpi .ne (IntOp.remsi .host x divisor) 0#32))
    (IntOp.addi (IntOp.remsi .host x divisor) divisor) (IntOp.remsi .host x divisor)

theorem quo_small : ∀ a : Fin 40, quo (BitVec.ofNat 32 a.val) = BitVec.ofNat 32 (a.val / 8) := by decide +kernel

theorem remn_block : ∀ i j : Fin 128, remn (BitVec.ofNat 32 (128 * i.val + j.val)) = BitVec.ofNat 32 ((128 * i.val + j.val) % 8) := by
  decide +kernel

theorem remn_small (a : ℕ) (h : a < 16384) : remn (BitVec.ofNat 32 a) = BitVec.ofNat 32 (a % 8) := by
  have := remn_block ⟨a / 128, by omega⟩ ⟨a % 128, by omega⟩
  dsimp only at this
  rwa [Nat.div_add_mod] at this

/-- One where two small numbers agree, zero elsewhere: the comparison's bit as a float. -/
theorem bit_eq (a b : ℕ) (ha : a < 4294967296) (hb : b < 4294967296) :
    (((IntOp.cmpi .eq (BitVec.ofNat 32 a) (BitVec.ofNat 32 b)).toNat : ℝ) : EReal) = if a = b then 1 else 0 := by
  have e : (BitVec.ofNat 32 a == BitVec.ofNat 32 b) = decide (a = b) := by
    rw [Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt ha, Nat.mod_eq_of_lt hb] at this
  show (((BitVec.ofBool (BitVec.ofNat 32 a == BitVec.ofNat 32 b)).toNat : ℝ) : EReal) = _
  rw [e]
  by_cases h : a = b
  · simp [h]
  · simp [h]

/-! ## The host lines -/

/-- Every line before the region, in order. -/
def line : List (HloOp τ sig (Elt Ideal)) :=
  hostOps0 ++ (hostOps0_1 ++ (hostOps0_2 ++ (hostOps0_3 ++ (hostOps0_4 ++ (hostOps0_5 ++ (hostOps0_6 ++ (hostOps0_7
    ++ (hostOps0_8 ++ (hostOps0_9 ++ hostOps0_10)))))))))

theorem V_line (c : Dev nD) (b : Ref sig .tc) :
    V m c b = StableHlo.after line (fun b => m (c, b)) (Proc.devRef .tc b) := by
  unfold V V0 line
  simp only [List.flatten_cons, List.flatten_nil, List.append_nil]

/-- The transposed features. -/
theorem features (c : Dev nD) (k : Fin 32) (n : Fin 20000) :
    V m c main_v40 (ix2 k n) = m ((c : Thread nD τ).loc main_arg0) (ix2 n k) := by
  rw [V_line]
  after_reads_simp
  exact transpose_ix2_apply _ _ k n

/-- The gathering matrix's first part, by row of the features and lane. -/
theorem gather_part (c : Dev nD) (n : ℕ) (hn : n = 53) (a b : Fin 32) :
    StableHlo.upto line (fun b => m (c, b)) n (Proc.devRef .tc main_v13) (ix2 a b)
      = if a.val = 4 * (b.val % 8) + b.val / 8 then (1 : EReal) else 0 := by
  subst hn
  after_reads_simp
  simp only [StableHlo.TRef.ofBuf_toBuf, id]
  refine Eq.trans (b := (((IntOp.cmpi .eq (BitVec.ofNat 32 a.val)
    (IntOp.addi (IntOp.muli 4#32 (remn (BitVec.ofNat 32 b.val))) (quo (BitVec.ofNat 32 b.val)))).toNat : ℝ) : EReal)) rfl ?_
  rw [remn_small _ (by omega), quo_small ⟨b.val, by omega⟩]
  refine Eq.trans ?_ (bit_eq a.val (4 * (b.val % 8) + b.val / 8) (by omega) (by omega))
  congr 4
  show 4#32 * BitVec.ofNat 32 (b.val % 8) + BitVec.ofNat 32 (b.val / 8) = _
  rw [show (4#32 : BitVec 32) = BitVec.ofNat 32 4 from rfl, ← BitVec.ofNat_mul, ← BitVec.ofNat_add]

/-- The gathering matrix below row 32: it picks a repeated feature. -/
theorem gather_low (c : Dev nD) (l : Fin 40) (k : Fin 32) (h : l.val < 32) :
    V m c main_v15 (ix2 l k) = if k.val = 4 * (l.val % 8) + l.val / 8 then (1 : EReal) else 0 := by
  rw [V_line]
  after_reads_simp
  refine (transpose_ix2_apply _ _ l k).trans ?_
  refine (concatenate_pair_apply_left (t := S32x40) (s₁ := S32x32) (s₂ := S32x8) 1 _ _ concatenates_S32x32_S32x8_S32x40_d1 (ix2 k l) rfl
    (ix2 k ⟨l.val, h⟩) (fun b => by match b with | ⟨0, _⟩ => rfl | ⟨1, _⟩ => rfl)).trans ?_
  exact gather_part m c _ rfl k ⟨l.val, h⟩

/-- The gathering matrix from row 32 on: the subdivision weights. -/
theorem gather_high (c : Dev nD) (l : Fin 40) (k : Fin 32) (j : Fin 8) (h : l.val = 32 + j.val) :
    V m c main_v15 (ix2 l k) = m ((c : Thread nD τ).loc main_arg4) (ix2 k j) := by
  rw [V_line]
  after_reads_simp
  refine (transpose_ix2_apply _ _ l k).trans ?_
  refine (concatenate_pair_apply_right (t := S32x40) (s₁ := S32x32) (s₂ := S32x8) 1 _ _ concatenates_S32x32_S32x8_S32x40_d1 (ix2 k l) rfl rfl
    (ix2 k j) (fun b hb => by match b with | ⟨0, _⟩ => rfl | ⟨1, _⟩ => exact absurd rfl hb) ?_).trans ?_
  · show j.val + 32 = l.val
    omega
  · after_reads_simp

/-- The mask: row and lane agree modulo eight. -/
theorem mask (c : Dev nD) (l : Fin 40) (x : Fin 16384) :
    V m c main_v39 (ix2 l x) = if l.val % 8 = x.val % 8 then (1 : EReal) else 0 := by
  rw [V_line]
  after_reads_simp
  refine Eq.trans (b := (((IntOp.cmpi .eq (remn (BitVec.ofNat 32 l.val)) (remn (BitVec.ofNat 32 x.val))).toNat : ℝ) : EReal)) rfl ?_
  rw [remn_small _ (by omega), remn_small _ x.isLt]
  exact bit_eq _ _ (by omega) (by omega)

/-- The reducing matrix's upper left part: the channel's group of eight. -/
theorem reduce_ll (c : Dev nD) (r : Fin 64) (l : Fin 40) (h : r.val < 32) (hl : l.val < 32) :
    V m c main_v29 (ix2 r l) = if r.val / 8 = l.val / 8 then (1 : EReal) else 0 := by
  rw [V_line]
  after_reads_simp
  refine (concatenate_pair_apply_left (t := S64x40) (s₁ := S32x40) (s₂ := S32x40) 0 _ _ concatenates_S32x40_S32x40_S64x40_d0 (ix2 r l) rfl
    (ix2 ⟨r.val, h⟩ l) (fun b => by match b with | ⟨0, _⟩ => rfl | ⟨1, _⟩ => rfl)).trans ?_
  after_reads_simp
  refine (concatenate_pair_apply_left (t := S32x40) (s₁ := S32x32) (s₂ := S32x8) 1 _ _ concatenates_S32x32_S32x8_S32x40_d1 _ rfl
    (ix2 ⟨r.val, h⟩ ⟨l.val, hl⟩) (fun b => by match b with | ⟨0, _⟩ => rfl | ⟨1, _⟩ => rfl)).trans ?_
  simp only [StableHlo.TRef.ofBuf_toBuf, id]
  refine Eq.trans (b := (((IntOp.cmpi .eq (quo (BitVec.ofNat 32 r.val)) (quo (BitVec.ofNat 32 l.val))).toNat : ℝ) : EReal)) rfl ?_
  rw [quo_small ⟨r.val, by omega⟩, quo_small l]
  exact bit_eq _ _ (by omega) (by omega)

/-- The reducing matrix's upper right part is zero. -/
theorem reduce_lh (c : Dev nD) (r : Fin 64) (l : Fin 40) (j : Fin 8) (h : r.val < 32) (hl : l.val = 32 + j.val) :
    V m c main_v29 (ix2 r l) = (0 : EReal) := by
  rw [V_line]
  after_reads_simp
  refine (concatenate_pair_apply_left (t := S64x40) (s₁ := S32x40) (s₂ := S32x40) 0 _ _ concatenates_S32x40_S32x40_S64x40_d0 (ix2 r l) rfl
    (ix2 ⟨r.val, h⟩ l) (fun b => by match b with | ⟨0, _⟩ => rfl | ⟨1, _⟩ => rfl)).trans ?_
  after_reads_simp
  refine (concatenate_pair_apply_right (t := S32x40) (s₁ := S32x32) (s₂ := S32x8) 1 _ _ concatenates_S32x32_S32x8_S32x40_d1 _ rfl rfl
    (ix2 ⟨r.val, h⟩ j) (fun b hb => by match b with | ⟨0, _⟩ => rfl | ⟨1, _⟩ => exact absurd rfl hb) ?_).trans ?_
  · show j.val + 32 = l.val
    omega
  · exact Ideal.ofBits_zero_f32

/-- The reducing matrix's lower left part is zero. -/
theorem reduce_hl (c : Dev nD) (r : Fin 64) (l : Fin 40) (q : Fin 32) (h : r.val = 32 + q.val) (hl : l.val < 32) :
    V m c main_v29 (ix2 r l) = (0 : EReal) := by
  rw [V_line]
  after_reads_simp
  refine (concatenate_pair_apply_right (t := S64x40) (s₁ := S32x40) (s₂ := S32x40) 0 _ _ concatenates_S32x40_S32x40_S64x40_d0 (ix2 r l) rfl rfl
    (ix2 q l) (fun b hb => by match b with | ⟨0, _⟩ => exact absurd rfl hb | ⟨1, _⟩ => rfl) ?_).trans ?_
  · show q.val + 32 = r.val
    omega
  · after_reads_simp
    refine (concatenate_pair_apply_left (t := S32x40) (s₁ := S32x32) (s₂ := S32x8) 1 _ _ concatenates_S32x32_S32x8_S32x40_d1 _ rfl
      (ix2 q ⟨l.val, hl⟩) (fun b => by match b with | ⟨0, _⟩ => rfl | ⟨1, _⟩ => rfl)).trans ?_
    exact Ideal.ofBits_zero_f32

/-- The reducing matrix's lower right part is one. -/
theorem reduce_hh (c : Dev nD) (r : Fin 64) (l : Fin 40) (q : Fin 32) (j : Fin 8) (h : r.val = 32 + q.val) (hl : l.val = 32 + j.val) :
    V m c main_v29 (ix2 r l) = (1 : EReal) := by
  rw [V_line]
  after_reads_simp
  refine (concatenate_pair_apply_right (t := S64x40) (s₁ := S32x40) (s₂ := S32x40) 0 _ _ concatenates_S32x40_S32x40_S64x40_d0 (ix2 r l) rfl rfl
    (ix2 q l) (fun b hb => by match b with | ⟨0, _⟩ => exact absurd rfl hb | ⟨1, _⟩ => rfl) ?_).trans ?_
  · show q.val + 32 = r.val
    omega
  · after_reads_simp
    refine (concatenate_pair_apply_right (t := S32x40) (s₁ := S32x32) (s₂ := S32x8) 1 _ _ concatenates_S32x32_S32x8_S32x40_d1 _ rfl rfl
      (ix2 q j) (fun b hb => by match b with | ⟨0, _⟩ => rfl | ⟨1, _⟩ => exact absurd rfl hb) ?_).trans ?_
    · show j.val + 32 = l.val
      omega
    · exact Ideal.ofBits_one_f32

end Cert.KernelIdeal.Hand

end
-- ==== Proof.Spec.lean ====
/-
  The block's result in plain terms: a child voxel of a parent takes the parent's repeated features where its gate's
  score is positive, and zero elsewhere.
-/
module

public import Idealize.ShloMosaic.PureOps.Ideal
public import Mathlib.Algebra.BigOperators.Fin

@[expose] public section

noncomputable section

namespace Cert.Plain

/-- A child's score: the parent's features against the child's column of the subdivision weights. -/
def score (feats : Fin 20000 → Fin 32 → EReal) (W : Fin 32 → Fin 8 → EReal) (n : Fin 20000) (j : Fin 8) : EReal :=
  ∑ k : Fin 32, W k j * feats n k

/-- The result at child `j` of parent `n` and channel `cc`. -/
def out (feats : Fin 20000 → Fin 32 → EReal) (W : Fin 32 → Fin 8 → EReal) (n : Fin 20000) (j : Fin 8) (cc : Fin 32) : EReal :=
  if 0 < score feats W n j then feats n ⟨4 * j.val + cc.val / 8, by omega⟩ else 0

end Cert.Plain

end
-- ==== Proof.PI.Value.lean ====
/-
  The idealized kernel's result array, read at an index: the plain result.
-/
module

public import proofs.«01_k».proof.Proof.PI.Host
public import proofs.«01_k».proof.Proof.Spec

@[expose] public section

set_option maxRecDepth 16384

noncomputable section

namespace Cert.KernelIdeal.Hand

open Cert.KernelIdeal Cert.KernelIdeal.Gen
open Idealize.ShloMosaic hiding ix2 eq_ix2
open Idealize.ShloMosaic.ValueIdx
open Idealize.ShloMosaic.TcCoe

variable (m : (ℓ : Loc nD τ sig) → Buf (Elt Ideal) ℓ)

/-- A row of the reduction that meets one lane of the mask only is that lane's sum. -/
theorem row_single (p : Fin 40 → Fin 32 → EReal) (k : Fin 40 → EReal) (w : Fin 64 → Fin 40 → EReal) (col : Fin 32 → EReal)
    (r : Fin 64) (l₀ : Fin 40) (hk : k l₀ = 1) (hw : w r l₀ = 1) (h : ∀ l, l ≠ l₀ → k l = 0 ∨ w r l = 0) :
    row p k w col r = ∑ c : Fin 32, p l₀ c * col c := by
  unfold row
  rw [Finset.sum_eq_single l₀ (fun l _ hl => by rcases h l hl with e | e <;> rw [e] <;> simp) (fun h => absurd (Finset.mem_univ _) h),
    hk, hw, one_mul, mul_one]

/-- The body's gated value, where the matrices are as the host prepares them, is the plain result. -/
theorem gated_plain (p : Fin 40 → Fin 32 → EReal) (k : Fin 40 → EReal) (w : Fin 64 → Fin 40 → EReal) (col : Fin 32 → EReal)
    (F : Fin 20000 → Fin 32 → EReal) (W : Fin 32 → Fin 8 → EReal) (n : Fin 20000) (j : Fin 8) (cc : Fin 32)
    (hmask : ∀ l, k l = if l.val % 8 = j.val then 1 else 0)
    (hlow : ∀ (l : Fin 40) (c : Fin 32), l.val < 32 → p l c = if c.val = 4 * (l.val % 8) + l.val / 8 then 1 else 0)
    (hhigh : ∀ (l : Fin 40) (c : Fin 32), l.val = 32 + j.val → p l c = W c j)
    (hll : ∀ (r : Fin 64) (l : Fin 40), r.val < 32 → l.val < 32 → w r l = if r.val / 8 = l.val / 8 then 1 else 0)
    (hlh : ∀ (r : Fin 64) (l : Fin 40), r.val < 32 → 32 ≤ l.val → w r l = 0)
    (hhl : ∀ (r : Fin 64) (l : Fin 40), 32 ≤ r.val → l.val < 32 → w r l = 0)
    (hhh : ∀ (r : Fin 64) (l : Fin 40), 32 ≤ r.val → 32 ≤ l.val → w r l = 1)
    (hcol : ∀ c, col c = F n c) : gated p k w col cc = Plain.out F W n j cc := by
  have hgate : row p k w col ⟨32 + cc.val, by omega⟩ = Plain.score F W n j := by
    rw [row_single p k w col _ ⟨32 + j.val, by omega⟩ ((hmask _).trans (if_pos (by show (32 + j.val) % 8 = j.val; omega)))
      (hhh _ _ (Nat.le_add_right _ _) (Nat.le_add_right _ _)) fun l hl => ?_]
    · exact Finset.sum_congr rfl fun c _ => congrArg₂ (· * ·) (hhigh _ c rfl) (hcol c)
    · by_cases h32 : l.val < 32
      · exact Or.inr (hhl _ l (Nat.le_add_right _ _) h32)
      · exact Or.inl ((hmask l).trans (if_neg fun e => hl (Fin.ext (by show l.val = 32 + j.val; omega))))
  have hskip : row p k w col ⟨cc.val, by omega⟩ = F n ⟨4 * j.val + cc.val / 8, by omega⟩ := by
    rw [row_single p k w col _ ⟨8 * (cc.val / 8) + j.val, by omega⟩
      ((hmask _).trans (if_pos (by show (8 * (cc.val / 8) + j.val) % 8 = j.val; omega)))
      ((hll _ _ cc.isLt (by show 8 * (cc.val / 8) + j.val < 32; omega)).trans
        (if_pos (by show cc.val / 8 = (8 * (cc.val / 8) + j.val) / 8; omega))) fun l hl => ?_]
    · rw [Finset.sum_eq_single (⟨4 * j.val + cc.val / 8, by omega⟩ : Fin 32)
        (fun c _ hc => ?_) (fun h => absurd (Finset.mem_univ _) h), hlow _ _ (by show 8 * (cc.val / 8) + j.val < 32; omega), if_pos ?_, one_mul, hcol]
      · show 4 * j.val + cc.val / 8 = 4 * ((8 * (cc.val / 8) + j.val) % 8) + (8 * (cc.val / 8) + j.val) / 8
        omega
      · rw [hlow _ _ (by show 8 * (cc.val / 8) + j.val < 32; omega), if_neg, zero_mul]
        intro e
        change c.val = 4 * ((8 * (cc.val / 8) + j.val) % 8) + (8 * (cc.val / 8) + j.val) / 8 at e
        exact hc (Fin.ext (by show c.val = 4 * j.val + cc.val / 8; omega))
    · by_cases h32 : l.val < 32
      · by_cases e : l.val % 8 = j.val
        · exact Or.inr ((hll _ l cc.isLt h32).trans (if_neg fun e' => hl (Fin.ext (by
            change cc.val / 8 = l.val / 8 at e'
            show l.val = 8 * (cc.val / 8) + j.val
            omega))))
        · exact Or.inl ((hmask l).trans (if_neg e))
      · exact Or.inr (hlh _ l cc.isLt (by omega))
  unfold gated Plain.out
  rw [hgate, hskip]

/-- The features and the subdivision weights, by coordinates. -/
def feats (c : Dev nD) : Fin 20000 → Fin 32 → EReal := fun n k => m ((c : Thread nD τ).loc main_arg0) (ix2 n k)
def weights (c : Dev nD) : Fin 32 → Fin 8 → EReal := fun k j => m ((c : Thread nD τ).loc main_arg4) (ix2 k j)

/-- The region's result at a channel and a child voxel. -/
theorem result_plain (c : Dev nD) (cc : Fin 32) (X : Fin 160000) (n : Fin 20000) (j : Fin 8) (hn : X.val / 8 = n.val) (hj : X.val % 8 = j.val) :
    result m c (ix2 cc X) = Plain.out (feats m c) (weights m c) n j cc :=
  (result_at m c (ix2 cc X) cc ⟨X.val % 16384, Nat.mod_lt _ (by decide)⟩ n rfl rfl hn).trans
    (gated_plain _ _ _ _ (feats m c) (weights m c) n j cc
      (fun l => (mask m c l _).trans (if_congr (by show l.val % 8 = X.val % 16384 % 8 ↔ _; omega) rfl rfl))
      (fun l k h => gather_low m c l k h) (fun l k h => gather_high m c l k j h)
      (fun r l h h' => reduce_ll m c r l h h') (fun r l h h' => reduce_lh m c r l ⟨l.val - 32, by omega⟩ h (by show l.val = 32 + (l.val - 32); omega))
      (fun r l h h' => reduce_hl m c r l ⟨r.val - 32, by omega⟩ (by show r.val = 32 + (r.val - 32); omega) h')
      (fun r l h h' => reduce_hh m c r l ⟨r.val - 32, by omega⟩ ⟨l.val - 32, by omega⟩
        (by show r.val = 32 + (r.val - 32); omega) (by show l.val = 32 + (l.val - 32); omega))
      (fun k => features m c k n))

/-- The result array the program leaves is the region's, transposed. -/
theorem final (c : Dev nD) :
    Pipeline.afterTail₀ cfgs (dats m) 0 (V0 m) [hostOps1] c main_v42
      = transpose S160000x32 [1, 0] (result m c) transposes_S32x160000_S160000x32_1_0 := by
  unfold Pipeline.afterTail₀
  simp only [List.flatten_cons, List.flatten_nil, List.append_nil]
  after_reads_simp
  refine congrArg (fun z => transpose S160000x32 [1, 0] z transposes_S32x160000_S160000x32_1_0) ?_
  exact (Pipeline.withArrays_arr spec0 (by decide) c (V0 m c) _ (4 : Fin 5)).trans (final_4 m c)

/-- The same at a child voxel and a channel. -/
theorem final_plain (c : Dev nD) (X : Fin 160000) (cc : Fin 32) (n : Fin 20000) (j : Fin 8) (hn : X.val / 8 = n.val) (hj : X.val % 8 = j.val) :
    transpose S160000x32 [1, 0] (result m c) transposes_S32x160000_S160000x32_1_0 (ix2 X cc)
      = Plain.out (feats m c) (weights m c) n j cc :=
  (transpose_ix2_apply _ _ X cc).trans (result_plain m c cc X n j hn hj)

end Cert.KernelIdeal.Hand

end
-- ==== Proof.PI.Args.lean ====
/-
  The idealized kernel's whole run: the result array is the region's, transposed, the arguments are as they were and the
  counters are at zero.
-/
module

public import proofs.«01_k».proof.Proof.PI.Value

@[expose] public section

set_option maxRecDepth 16384

noncomputable section

namespace Cert.KernelIdeal.Hand

open Cert.KernelIdeal Cert.KernelIdeal.Gen
open Idealize.ShloMosaic Idealize.SL.Sem
open Idealize.ShloMosaic.TcCoe

variable (m : (ℓ : Loc nD τ sig) → Buf (Elt Ideal) ℓ) (ρ : Dev nD → PrngReg)

theorem run : θ_run defs (onTc (τ := τ) (main (F := Ideal))) ⟨m, fun _ => 0, ρ⟩ (fun r => (∀ c : Dev nD,
      r.2.mem ((c.tc : Thread nD τ).loc main_v42) = transpose S160000x32 [1, 0] (result m c) transposes_S32x160000_S160000x32_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    ⟨((h.1 c).2 main_v42 (Pipeline.mem_restRefs_of main_v42 (by decide) (by decide))).trans (final m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c)⟩, h.2⟩)
    (run_main m ρ)

end Cert.KernelIdeal.Hand

end
-- ==== Proof.RI.Value.lean ====
/-
  The idealized reference's result array, read at an index, where the parameters the block starts at zero are zero: the
  plain result.
-/
module

public import proofs.«01_k».proof.Proof.Gen.ReferenceIdeal.Run
public import proofs.«01_k».proof.Proof.Spec
public import Idealize.ShloMosaic.Lib.IdealHost
public import Idealize.ShloMosaic.Lib.StackMember
public import Idealize.ShloMosaic.Lib.ValueLayout
public import Idealize.ShloMosaic.Lib.Pipeline.Value

@[expose] public section

set_option maxRecDepth 16384

noncomputable section

namespace Cert.ReferenceIdeal.Hand

open Cert.ReferenceIdeal Cert.ReferenceIdeal.Gen
open Idealize.ShloMosaic
open Idealize.ShloMosaic.ValueIdx

/-- The gate's bit at every child voxel, as a float. -/
def bits (x : FVec Ideal S20000x32 .f32) (W : FVec Ideal S32x8 .f32) (b : FVec Ideal S8 .f32) : FVec Ideal S160000 .f32 :=
  uitofp .f32 (shapeCast _ (cmpf .ogt (addf (Host.dotGeneral dot_S20000x32_S32x8_S20000x8_1_0_0_1_n_n none x W)
    (broadcastInDim S20000x8 ![0, 1] bcast_S1x8_S20000x8_0_1 (broadcastInDim S1x8 ![1] bcast_S8_S1x8_1 b)))
    (broadcastInDim S20000x8 ![] bcast_S_S20000x8 (constant S_ .f32 0x00000000#32))) shapeCasts_S20000x8_S160000)

/-- A bit read as a float. -/
theorem bit_float {s : Shape} (v : IVec s 1) (i : s.Idx) : (uitofp .f32 v : FVec Ideal s .f32) i = (((v i).toNat : ℝ) : EReal) := rfl

/-- The gate's bit at child `j` of parent `n`: one where the score is positive. -/
theorem bits_apply (x : FVec Ideal S20000x32 .f32) (W : FVec Ideal S32x8 .f32) (b : FVec Ideal S8 .f32) (hb : ∀ i, b i = (0 : EReal))
    (X : Fin 160000) (n : Fin 20000) (j : Fin 8) (hX : X.val = 8 * n.val + j.val) :
    bits x W b (ix1 X) = if 0 < Plain.score (fun n k => x (ix2 n k)) (fun k j => W (ix2 k j)) n j then (1 : EReal) else 0 := by
  have hd : Host.dotGeneral dot_S20000x32_S32x8_S20000x8_1_0_0_1_n_n none x W (ix2 n j)
      = Plain.score (fun n k => x (ix2 n k)) (fun k j => W (ix2 k j)) n j :=
    (StackMember.dotGeneral_plain_apply (m := 20000) (k := 32) (n := 8) none x W n j).trans (Finset.sum_congr rfl fun k _ => mul_comm _ _)
  have hs : shapeCast S160000 (cmpf .ogt (addf (Host.dotGeneral dot_S20000x32_S32x8_S20000x8_1_0_0_1_n_n none x W)
      (broadcastInDim S20000x8 ![0, 1] bcast_S1x8_S20000x8_0_1 (broadcastInDim S1x8 ![1] bcast_S8_S1x8_1 b)))
      (broadcastInDim S20000x8 ![] bcast_S_S20000x8 (constant S_ .f32 0x00000000#32))) shapeCasts_S20000x8_S160000 (ix1 X)
      = BitVec.ofBool (decide ((0 : EReal) < Plain.score (fun n k => x (ix2 n k)) (fun k j => W (ix2 k j)) n j)) := by
    refine (shapeCast_apply _ _ (ix1 X) (ix2 n j) ?_).trans ?_
    · rw [Shape.rowMajor_val_two, Shape.rowMajor_val_one]
      show n.val * 8 + j.val = X.val
      omega
    · refine Eq.trans (b := Ideal.cmp .ogt (Host.dotGeneral dot_S20000x32_S32x8_S20000x8_1_0_0_1_n_n none x W (ix2 n j)
        + broadcastInDim S20000x8 ![0, 1] bcast_S1x8_S20000x8_0_1 (broadcastInDim S1x8 ![1] bcast_S8_S1x8_1 b) (ix2 n j)) (Ideal.ofBits .f32 0x00000000#32)) rfl ?_
      rw [hd, show broadcastInDim S20000x8 ![0, 1] bcast_S1x8_S20000x8_0_1 (broadcastInDim S1x8 ![1] bcast_S8_S1x8_1 b) (ix2 n j) = (0 : EReal) from hb _,
        Ideal.ofBits_zero_f32, add_zero]
      rfl
  unfold bits
  refine (bit_float _ _).trans ?_
  rw [hs]
  by_cases h : (0 : EReal) < Plain.score (fun n k => x (ix2 n k)) (fun k j => W (ix2 k j)) n j
  · rw [if_pos h, decide_eq_true h]; simp
  · rw [if_neg h, decide_eq_false h]; simp

/-- The whole result, of the gate's bits, the features, the second convolution's sums and its bias. -/
def whole (x : FVec Ideal S20000x32 .f32) (g : FVec Ideal S160000 .f32) (h : FVec Ideal S27x160000x32 .f32)
    (W₂ : FVec Ideal S3x3x3x32x32 .f32) (b₂ : FVec Ideal S32 .f32) : FVec Ideal S160000x32 .f32 :=
  mulf (addf (shapeCast _ (broadcastInDim S160000x4x8 ![0, 1] bcast_S160000x4_S160000x4x8_0_1 (mulf (shapeCast _ x shapeCasts_S20000x32_S160000x4)
      (broadcastInDim S160000x4 ![0, 1] bcast_S160000x1_S160000x4_0_1 (broadcastInDim S160000x1 ![0] bcast_S160000_S160000x1_0 g))))
      shapeCasts_S160000x4x8_S160000x32)
    (addf (Host.dotGeneral dot_S27x160000x32_S27x32x32_S160000x32_20_10_1_2_n_n none h (shapeCast _ W₂ shapeCasts_S3x3x3x32x32_S27x32x32))
      (broadcastInDim S160000x32 ![0, 1] bcast_S1x32_S160000x32_0_1 (broadcastInDim S1x32 ![1] bcast_S32_S1x32_1 b₂))))
    (broadcastInDim S160000x32 ![0, 1] bcast_S160000x1_S160000x32_0_1 (broadcastInDim S160000x1 ![0] bcast_S160000_S160000x1_0 g))

/-- Zero weights and a zero bias contribute nothing. -/
theorem second_zero (h : FVec Ideal S27x160000x32 .f32) (W₂ : FVec Ideal S3x3x3x32x32 .f32) (b₂ : FVec Ideal S32 .f32)
    (hW : ∀ i, W₂ i = (0 : EReal)) (hb : ∀ i, b₂ i = (0 : EReal)) (i : S160000x32.Idx) :
    addf (Host.dotGeneral dot_S27x160000x32_S27x32x32_S160000x32_20_10_1_2_n_n none h (shapeCast _ W₂ shapeCasts_S3x3x3x32x32_S27x32x32))
      (broadcastInDim S160000x32 ![0, 1] bcast_S1x32_S160000x32_0_1 (broadcastInDim S1x32 ![1] bcast_S32_S1x32_1 b₂)) i = (0 : EReal) := by
  refine Eq.trans (b := Host.dotGeneral dot_S27x160000x32_S27x32x32_S160000x32_20_10_1_2_n_n none h
    (shapeCast _ W₂ shapeCasts_S3x3x3x32x32_S27x32x32) i
    + broadcastInDim S160000x32 ![0, 1] bcast_S1x32_S160000x32_0_1 (broadcastInDim S1x32 ![1] bcast_S32_S1x32_1 b₂) i) rfl ?_
  rw [show broadcastInDim S160000x32 ![0, 1] bcast_S1x32_S160000x32_0_1 (broadcastInDim S1x32 ![1] bcast_S32_S1x32_1 b₂) i = (0 : EReal) from hb _, add_zero]
  simp only [Host.dotGeneral]
  rw [Ideal.dotGeneral_apply]
  refine Finset.sum_eq_zero fun k _ => ?_
  rw [show shapeCast S27x32x32 W₂ shapeCasts_S3x3x3x32x32_S27x32x32 _ = (0 : EReal) from hW _, mul_zero]

theorem whole_apply (x : FVec Ideal S20000x32 .f32) (g : FVec Ideal S160000 .f32) (h : FVec Ideal S27x160000x32 .f32)
    (W₂ : FVec Ideal S3x3x3x32x32 .f32) (b₂ : FVec Ideal S32 .f32) (hW : ∀ i, W₂ i = (0 : EReal)) (hb : ∀ i, b₂ i = (0 : EReal))
    (X : Fin 160000) (cc : Fin 32) (n : Fin 20000) (k : Fin 32) (hk : 4 * X.val + cc.val / 8 = 32 * n.val + k.val) :
    whole x g h W₂ b₂ (ix2 X cc) = x (ix2 n k) * g (ix1 X) * g (ix1 X) := by
  have hg : ∀ y : Fin 4, (broadcastInDim S160000x4 ![0, 1] bcast_S160000x1_S160000x4_0_1 (broadcastInDim S160000x1 ![0] bcast_S160000_S160000x1_0 g))
      (ix2 X y) = g (ix1 X) := fun y =>
    (broadcastInDim_apply _ _ _ _ (ix2 X (0 : Fin 1)) (fun a => by match a with | ⟨0, _⟩ => rfl | ⟨1, _⟩ => rfl)).trans
      (broadcastInDim_apply _ _ _ _ (ix1 X) (fun a => by match a with | ⟨0, _⟩ => rfl))
  have hg' : (broadcastInDim S160000x32 ![0, 1] bcast_S160000x1_S160000x32_0_1 (broadcastInDim S160000x1 ![0] bcast_S160000_S160000x1_0 g))
      (ix2 X cc) = g (ix1 X) :=
    (broadcastInDim_apply _ _ _ _ (ix2 X (0 : Fin 1)) (fun a => by match a with | ⟨0, _⟩ => rfl | ⟨1, _⟩ => rfl)).trans
      (broadcastInDim_apply _ _ _ _ (ix1 X) (fun a => by match a with | ⟨0, _⟩ => rfl))
  have hx : shapeCast S160000x4 x shapeCasts_S20000x32_S160000x4 (ix2 X (⟨cc.val / 8, by omega⟩ : Fin 4)) = x (ix2 n k) :=
    shapeCast_apply _ _ _ (ix2 n k) (by
      rw [Shape.rowMajor_val_two, Shape.rowMajor_val_two]
      show n.val * 32 + k.val = X.val * 4 + cc.val / 8
      omega)
  have hs : shapeCast S160000x32 (broadcastInDim S160000x4x8 ![0, 1] bcast_S160000x4_S160000x4x8_0_1 (mulf (shapeCast _ x shapeCasts_S20000x32_S160000x4)
      (broadcastInDim S160000x4 ![0, 1] bcast_S160000x1_S160000x4_0_1 (broadcastInDim S160000x1 ![0] bcast_S160000_S160000x1_0 g))))
      shapeCasts_S160000x4x8_S160000x32 (ix2 X cc) = x (ix2 n k) * g (ix1 X) := by
    refine (shapeCast_apply _ _ _ (ix3 X (⟨cc.val / 8, by omega⟩ : Fin 4) (⟨cc.val % 8, by omega⟩ : Fin 8)) ?_).trans ?_
    · rw [Shape.rowMajor_val_three, Shape.rowMajor_val_two]
      show (X.val * 4 + cc.val / 8) * 8 + cc.val % 8 = X.val * 32 + cc.val
      omega
    · refine (broadcastInDim_apply _ _ _ _ (ix2 X (⟨cc.val / 8, by omega⟩ : Fin 4)) (fun a => by match a with | ⟨0, _⟩ => rfl | ⟨1, _⟩ => rfl)).trans ?_
      exact congrArg₂ (fun a b : EReal => a * b) hx (hg _)
  refine Eq.trans (congrArg₂ (fun a b : EReal => a * b) (congrArg₂ (fun a b : EReal => a + b) hs (second_zero h W₂ b₂ hW hb (ix2 X cc))) hg') ?_
  rw [add_zero]

/-- The reference's result at a child voxel and a channel. -/
theorem whole_plain (x : FVec Ideal S20000x32 .f32) (W : FVec Ideal S32x8 .f32) (b : FVec Ideal S8 .f32) (h : FVec Ideal S27x160000x32 .f32)
    (W₂ : FVec Ideal S3x3x3x32x32 .f32) (b₂ : FVec Ideal S32 .f32) (hb : ∀ i, b i = (0 : EReal))
    (hW₂ : ∀ i, W₂ i = (0 : EReal)) (hb₂ : ∀ i, b₂ i = (0 : EReal))
    (X : Fin 160000) (cc : Fin 32) (n : Fin 20000) (j : Fin 8) (hX : X.val = 8 * n.val + j.val) :
    whole x (bits x W b) h W₂ b₂ (ix2 X cc) = Plain.out (fun n k => x (ix2 n k)) (fun k j => W (ix2 k j)) n j cc := by
  rw [whole_apply x _ h W₂ b₂ hW₂ hb₂ X cc n ⟨4 * j.val + cc.val / 8, by omega⟩ (by show 4 * X.val + cc.val / 8 = 32 * n.val + (4 * j.val + cc.val / 8); omega),
    bits_apply x W b hb X n j hX]
  unfold Plain.out
  split
  · rw [mul_one, mul_one]
  · rw [mul_zero]

end Cert.ReferenceIdeal.Hand

end
-- ==== Proof.Equation.lean ====
/-
  The equation: from the same features and subdivision weights, and from parameters that start at zero, the reference's
  result array and the kernel's are equal.
-/
module

public import proofs.«01_k».proof.Pre_zero_initialised
public import proofs.«01_k».proof.Proof.PI.Value
public import proofs.«01_k».proof.Proof.RI.Value

@[expose] public section

noncomputable section

namespace Cert.Equation

open Idealize.ShloMosaic hiding ix2 eq_ix2
open Idealize.ShloMosaic.ValueIdx
open Idealize.ShloMosaic.TcCoe

/-- The shape facts the precondition's comparisons state. -/
theorem preFacts : Cert.Pre_zero_initialised.Facts where
  bcast_S_S8 := by decide
  bcast_S_S3x3x3x32x32 := by decide
  bcast_S_S32 := by decide

/-- A number that the comparison with zero finds equal is zero. -/
theorem zero_of_bit (x : EReal) (h : Ideal.cmp .oeq x (Ideal.ofBits .f32 0x00000000#32) = 1#1) : x = 0 := by
  rw [Ideal.ofBits_zero_f32] at h
  by_contra hx
  have e : Ideal.cmp .oeq x 0 = BitVec.ofBool (decide (x = 0)) := rfl
  rw [e, decide_eq_false hx] at h
  exact absurd h (by decide)

/-- The two result arrays. -/
theorem results (m : (ℓ : Loc KernelIdeal.nD KernelIdeal.τ KernelIdeal.sig) → Buf (Elt Ideal) ℓ) (c : Dev KernelIdeal.nD)
    (x : FVec Ideal ReferenceIdeal.S20000x32 .f32) (W : FVec Ideal ReferenceIdeal.S32x8 .f32) (b : FVec Ideal ReferenceIdeal.S8 .f32)
    (h : FVec Ideal ReferenceIdeal.S27x160000x32 .f32) (W₂ : FVec Ideal ReferenceIdeal.S3x3x3x32x32 .f32) (b₂ : FVec Ideal ReferenceIdeal.S32 .f32)
    (hx : x = m ((c : Thread KernelIdeal.nD KernelIdeal.τ).loc KernelIdeal.main_arg0))
    (hW : W = m ((c : Thread KernelIdeal.nD KernelIdeal.τ).loc KernelIdeal.main_arg4))
    (hb : ∀ i, b i = (0 : EReal)) (hW₂ : ∀ i, W₂ i = (0 : EReal)) (hb₂ : ∀ i, b₂ i = (0 : EReal)) :
    ReferenceIdeal.Hand.whole x (ReferenceIdeal.Hand.bits x W b) h W₂ b₂
      = transpose KernelIdeal.S160000x32 [1, 0] (KernelIdeal.Hand.result m c) KernelIdeal.Gen.transposes_S32x160000_S160000x32_1_0 := by
  subst hx hW
  funext i
  rw [eq_ix2 i]
  exact (ReferenceIdeal.Hand.whole_plain _ _ b h W₂ b₂ hb hW₂ hb₂ (i 0) (i 1) ⟨(i 0).val / 8, by have := (i 0).isLt; change _ < 160000 at this; omega⟩
    ⟨(i 0).val % 8, by omega⟩ (by show (i 0).val = 8 * ((i 0).val / 8) + (i 0).val % 8; omega)).trans
    (KernelIdeal.Hand.final_plain m c (i 0) (i 1) _ _ rfl rfl).symm

end Cert.Equation

end
-- ==== Proof.lean ====
/-
  The certificate's claim: the kernel's, its idealization's and the reference's frames, and the equation of the two
  results where the parameters that start at zero are zero.
-/
module

public import proofs.«01_k».proof.Defs
public import proofs.«01_k».proof.Proof.P.Args
public import proofs.«01_k».proof.Proof.PI.Args
public import proofs.«01_k».proof.Proof.Equation
public import Idealize.ShloMosaic.Adequacy
public import Idealize.ShloMosaic.Init

@[expose] public section

noncomputable section

namespace Cert.Proof

open Idealize.ShloMosaic Idealize.SL.Sem

/-- The idealized kernel's frame, out of its run. -/
theorem frame_ideal : quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run m g)

/-- The reference's frame, out of its run. -/
theorem frame_reference : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- From memories that agree on the arguments the two programs leave the same result. -/
theorem equal : algebraic_KernelIdeal_ReferenceIdeal_pre_zero_initialised (hKernelIdeal := Cert.KernelIdeal.Gen.facts)
    (hReferenceIdeal := Cert.ReferenceIdeal.Gen.facts) (hPre_zero_initialised := Cert.Equation.preFacts) := by
  intro m g m' g' hpre hargs
  refine ⟨fun c => transpose Cert.KernelIdeal.S160000x32 [1, 0] (Cert.KernelIdeal.Hand.result m c)
      Cert.KernelIdeal.Gen.transposes_S32x160000_S160000x32_1_0,
    (θ_run Cert.KernelIdeal.defs _ _).mono (fun _ h => h.1) (Cert.KernelIdeal.Hand.run m g),
    (θ_run Cert.ReferenceIdeal.defs _ _).mono (fun r h c => ⟨(h c).1.trans ?_, (h c).2⟩) (Cert.ReferenceIdeal.Value.run m' g')⟩
  obtain ⟨p₅, p₈, p₉⟩ := hpre c
  obtain ⟨a₀, -, -, -, a₄, a₅, -, -, a₈, a₉⟩ := hargs c
  exact Cert.Equation.results m c _ _ _ _ _ _ a₀ a₄
    (fun i => (congrFun a₅ i).trans (Cert.Equation.zero_of_bit _ (congrFun p₅ i)))
    (fun i => (congrFun a₈ i).trans (Cert.Equation.zero_of_bit _ (congrFun p₈ i)))
    (fun i => (congrFun a₉ i).trans (Cert.Equation.zero_of_bit _ (congrFun p₉ i)))

theorem claim : Cert.Claim := ⟨Cert.Kernel.Gen.facts, Cert.KernelIdeal.Gen.facts, Cert.ReferenceIdeal.Gen.facts, Cert.Equation.preFacts,
  fun m g _ => Cert.Kernel.Hand.frame m g, frame_ideal, fun m g _ => frame_ideal m g trivial,
  frame_reference, fun m g _ => frame_reference m g trivial, trivial, equal⟩

end Cert.Proof

end
